-- ==== Defs.lean ====
def Pre_Kernel [hPre_lcas_in_rows : Cert.Pre_lcas_in_rows.Facts] (m : (ℓ : Loc Cert.Kernel.nD Cert.Kernel.τ Cert.Kernel.sig) → Buf (Elt Bits) ℓ) : Prop :=
  ∀ c : Dev Cert.Kernel.nD,
    (Cert.Pre_lcas_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_lcas_in_rows : Cert.Pre_lcas_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_lcas_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lcas_in_rows [hPre_lcas_in_rows : Cert.Pre_lcas_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lcas_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_lcas_in_rows : Cert.Pre_lcas_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_lcas_in_rows : Cert.Pre_lcas_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lcas_in_rows [hReferenceIdeal : Cert.ReferenceIdeal.Facts] [hPre_lcas_in_rows : Cert.Pre_lcas_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lcas_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lcas_in_rows : Cert.Pre_lcas_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lcas_in_rows : Cert.Pre_lcas_in_rows.Facts),
    quiescent_Kernel (hKernel := hKernel) (hPre_lcas_in_rows := hPre_lcas_in_rows)
    ∧ quiescent_KernelIdeal (hKernelIdeal := hKernelIdeal) (hPre_lcas_in_rows := hPre_lcas_in_rows)
    ∧ quiescent_ReferenceIdeal (hReferenceIdeal := hReferenceIdeal)
    ∧ quiescent_ReferenceIdeal_pre_lcas_in_rows (hReferenceIdeal := hReferenceIdeal) (hPre_lcas_in_rows := hPre_lcas_in_rows)
    ∧ preserves_Kernel_KernelIdeal
    ∧ algebraic_KernelIdeal_ReferenceIdeal (hKernelIdeal := hKernelIdeal) (hReferenceIdeal := hReferenceIdeal) (hPre_lcas_in_rows := hPre_lcas_in_rows)
-- ==== Pre_lcas_in_rows.lean ====
abbrev S8x128x128 : Shape := ⟨3, ![8, 128, 128]⟩
abbrev S8x128x256 : Shape := ⟨3, ![8, 128, 256]⟩
abbrev S_ : Shape := ⟨0, ![]⟩

class Facts : Prop where
  bcast_S_S8x128x128 : S_.BroadcastsInDim S8x128x128 (![] : Fin 0 → Fin S8x128x128.rank)
  reducesTo_S8x128x128_S_d0_1_2 : S8x128x128.ReducesTo [0, 1, 2] S_
  h_S_ : 0 < S_.numel

variable [Facts]

def fn {F : FTy → Type} [FloatOps F] (main_arg0 : IVec S8x128x128 32) (main_arg1 : FVec F S8x128x256 .f32) : IVec S_ 1 :=
  let main_c : IVec S_ 32 := constantI S_ 32 0#32
  let main_v0 : IVec S8x128x128 32 := broadcastInDim S8x128x128 ![] bcast_S_S8x128x128 main_c
  let main_v1 : IVec S8x128x128 1 := cmpi .sge main_arg0 main_v0
  let main_c_0 : IVec S_ 32 := constantI S_ 32 128#32
  let main_v2 : IVec S8x128x128 32 := broadcastInDim S8x128x128 ![] bcast_S_S8x128x128 main_c_0
  let main_v3 : IVec S8x128x128 1 := cmpi .sle main_arg0 main_v2
  let main_v4 : IVec S8x128x128 1 := andi main_v1 main_v3
  let main_c_1 : IVec S_ 1 := constantI S_ 1 1#1
  let main_v5 : IVec S_ 1 := (fun x v => Host.reduce IntOp.andi x v reducesTo_S8x128x128_S_d0_1_2 h_S_) main_v4 main_c_1
  main_v5
-- ==== Kernel.lean ====
abbrev S8x128x128 : Shape := ⟨3, ![8, 128, 128]⟩
abbrev S8x128x256 : Shape := ⟨3, ![8, 128, 256]⟩
abbrev S_ : Shape := ⟨0, ![]⟩
abbrev S8x1x256 : Shape := ⟨3, ![8, 1, 256]⟩
abbrev S8x7x256 : Shape := ⟨3, ![8, 7, 256]⟩
abbrev S8x136x256 : Shape := ⟨3, ![8, 136, 256]⟩
abbrev S278528 : Shape := ⟨1, ![278528]⟩
abbrev S131072 : Shape := ⟨1, ![131072]⟩
abbrev S33554432 : Shape := ⟨1, ![33554432]⟩
abbrev S4096 : Shape := ⟨1, ![4096]⟩
abbrev S34816 : Shape := ⟨1, ![34816]⟩
abbrev S32768 : Shape := ⟨1, ![32768]⟩
abbrev S16 : Shape := ⟨1, ![16]⟩
abbrev S8x128x128x256 : Shape := ⟨4, ![8, 128, 128, 256]⟩

abbrev nBuf : Table → Nat
  | .hbm => 11
  | .local .scVector .vmem => 4
  | _ => 0

abbrev bufTy : (tb : Table) → Fin (nBuf tb) → BufTy
  | .hbm, ⟨0, _⟩ => ⟨S8x128x128, .i32⟩
  | .hbm, ⟨1, _⟩ => ⟨S8x128x256, .f32⟩
  | .hbm, ⟨2, _⟩ => ⟨S_, .f32⟩
  | .hbm, ⟨3, _⟩ => ⟨S8x1x256, .f32⟩
  | .hbm, ⟨4, _⟩ => ⟨S_, .f32⟩
  | .hbm, ⟨5, _⟩ => ⟨S8x7x256, .f32⟩
  | .hbm, ⟨6, _⟩ => ⟨S8x136x256, .f32⟩
  | .hbm, ⟨7, _⟩ => ⟨S278528, .f32⟩
  | .hbm, ⟨8, _⟩ => ⟨S131072, .i32⟩
  | .hbm, ⟨9, _⟩ => ⟨S33554432, .f32⟩
  | .hbm, ⟨10, _⟩ => ⟨S8x128x128x256, .f32⟩
  | .local .scVector .vmem, ⟨0, _⟩ => ⟨S4096, .i32⟩
  | .local .scVector .vmem, ⟨1, _⟩ => ⟨S34816, .f32⟩
  | .local .scVector .vmem, ⟨2, _⟩ => ⟨S32768, .f32⟩
  | .local .scVector .vmem, ⟨3, _⟩ => ⟨S32768, .f32⟩
  | _, _ => ⟨S8x128x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v4_scv : Ref sig .scVector := ⟨.hbm, 8, rfl⟩
abbrev main_v3_scv : Ref sig .scVector := ⟨.hbm, 7, rfl⟩
abbrev main_v5_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16384_i32 : BitVec 32 := 16384#32
  let c0_i32_1 : BitVec 32 := 0#32
  let v9 : BitVec 1 := Scalar.cmpi .sgt c16384_i32 c0_i32_1
  let v10 : BitVec 32 := Scalar.extui v9
  let c0_i32_2 : BitVec 32 := 0#32
  let v11 : BitVec 1 := Scalar.cmpi .slt c16384_i32 c0_i32_2
  let v12 : BitVec 32 := Scalar.extui v11
  let v13 : BitVec 32 := Scalar.subi v10 v12
  let v14 : BitVec 1 := Scalar.cmpi .ne v8 v13
  let v15 : BitVec 32 := Scalar.remsi v2 c16384_i32
  let c0_i32_3 : BitVec 32 := 0#32
  let v16 : BitVec 1 := Scalar.cmpi .ne v15 c0_i32_3
  let v17 : BitVec 1 := Scalar.andi v14 v16
  let v3 : BitVec 32 := Scalar.divsi v2 c16384_i32
  let c1_i32 : BitVec 32 := 1#32
  let v18 : BitVec 32 := Scalar.subi v3 c1_i32
  let v19 : BitVec 32 := Scalar.select v17 v18 v3
  let c34816_i32 : BitVec 32 := 34816#32
  let v20 : BitVec 32 := Scalar.muli v19 c34816_i32
  ![v20.toNat]
@[reducible] def k0_t1_loop : Scf.Loop 32 :=
  let c0_i32_5 : BitVec 32 := 0#32
  let c32_i32 : BitVec 32 := 32#32
  let v21 : BitVec 32 := Scalar.addi c0_i32_5 c32_i32
  let c1_i32_6 : BitVec 32 := 1#32
  ⟨c0_i32_5, v21, c1_i32_6⟩
def k0_off3 (k0_t1 : Fin k0_t1_loop.trips) (c0_i32_21 : BitVec 32) : Fin 1 → Nat :=
  let c0_i32_5 : BitVec 32 := 0#32
  let c1_i32_6 : BitVec 32 := 1#32
  let arg11 : BitVec 32 := Scf.iv c0_i32_5 c1_i32_6 k0_t1
  let c8_i32 : BitVec 32 := 8#32
  let v61 : BitVec 32 := Scalar.muli arg11 c8_i32
  let c16_i32_20 : BitVec 32 := 16#32
  let v62 : BitVec 32 := Scalar.muli v61 c16_i32_20
  let v63 : BitVec 32 := Scalar.addi v62 c0_i32_21
  let v64 : Index := Scalar.indexCast v63
  ![v64.toNat]
@[reducible] def k0_t2_loop : Scf.Loop 32 :=
  let c0_i32_11 : BitVec 32 := 0#32
  let c128_i32_12 : BitVec 32 := 128#32
  let v55 : BitVec 32 := Scalar.addi c0_i32_11 c128_i32_12
  let c1_i32_13 : BitVec 32 := 1#32
  ⟨c0_i32_11, v55, c1_i32_13⟩

def k0_chk1 (v62 : IVec S16 32) : Prop :=
  (∀ a x, ((![v62] : Fin 1 → IVec S16 32) a x).toNat < S4096.size a)
theorem k0_idx1_inb : ∀ (v62 : IVec S16 32) (k0_hw1 : k0_chk1 v62), ∀ a x, ((![v62] : Fin 1 → IVec S16 32) a x).toNat < S4096.size a := fun v62 k0_hw1 => k0_hw1

def k0_chk2 (v65 : IVec S16 32) : Prop :=
  (∀ a x, ((![v65] : Fin 1 → IVec S16 32) a x).toNat < S34816.size a)
theorem k0_idx2_inb : ∀ (v65 : IVec S16 32) (k0_hw2 : k0_chk2 v65), ∀ a x, ((![v65] : Fin 1 → IVec S16 32) a x).toNat < S34816.size a := fun v65 k0_hw2 => k0_hw2
def k0_off4 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c0_i32_22 : BitVec 32 := 0#32
  let v67 : BitVec 32 := Scalar.addi v64 c0_i32_22
  let v68 : Index := Scalar.indexCast v67
  ![v68.toNat]

def k0_chk3 (v70 : IVec S16 32) : Prop :=
  (∀ a x, ((![v70] : Fin 1 → IVec S16 32) a x).toNat < S34816.size a)
theorem k0_idx3_inb : ∀ (v70 : IVec S16 32) (k0_hw3 : k0_chk3 v70), ∀ a x, ((![v70] : Fin 1 → IVec S16 32) a x).toNat < S34816.size a := fun v70 k0_hw3 => k0_hw3
def k0_off5 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c16_i32_23 : BitVec 32 := 16#32
  let v72 : BitVec 32 := Scalar.addi v64 c16_i32_23
  let v73 : Index := Scalar.indexCast v72
  ![v73.toNat]

def k0_chk4 (v75 : IVec S16 32) : Prop :=
  (∀ a x, ((![v75] : Fin 1 → IVec S16 32) a x).toNat < S34816.size a)
theorem k0_idx4_inb : ∀ (v75 : IVec S16 32) (k0_hw4 : k0_chk4 v75), ∀ a x, ((![v75] : Fin 1 → IVec S16 32) a x).toNat < S34816.size a := fun v75 k0_hw4 => k0_hw4
def k0_off6 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c32_i32_24 : BitVec 32 := 32#32
  let v77 : BitVec 32 := Scalar.addi v64 c32_i32_24
  let v78 : Index := Scalar.indexCast v77
  ![v78.toNat]

def k0_chk5 (v80 : IVec S16 32) : Prop :=
  (∀ a x, ((![v80] : Fin 1 → IVec S16 32) a x).toNat < S34816.size a)
theorem k0_idx5_inb : ∀ (v80 : IVec S16 32) (k0_hw5 : k0_chk5 v80), ∀ a x, ((![v80] : Fin 1 → IVec S16 32) a x).toNat < S34816.size a := fun v80 k0_hw5 => k0_hw5
def k0_off7 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c48_i32_25 : BitVec 32 := 48#32
  let v82 : BitVec 32 := Scalar.addi v64 c48_i32_25
  let v83 : Index := Scalar.indexCast v82
  ![v83.toNat]

def k0_chk6 (v85 : IVec S16 32) : Prop :=
  (∀ a x, ((![v85] : Fin 1 → IVec S16 32) a x).toNat < S34816.size a)
theorem k0_idx6_inb : ∀ (v85 : IVec S16 32) (k0_hw6 : k0_chk6 v85), ∀ a x, ((![v85] : Fin 1 → IVec S16 32) a x).toNat < S34816.size a := fun v85 k0_hw6 => k0_hw6
def k0_off8 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c64_i32_26 : BitVec 32 := 64#32
  let v87 : BitVec 32 := Scalar.addi v64 c64_i32_26
  let v88 : Index := Scalar.indexCast v87
  ![v88.toNat]

def k0_chk7 (v90 : IVec S16 32) : Prop :=
  (∀ a x, ((![v90] : Fin 1 → IVec S16 32) a x).toNat < S34816.size a)
theorem k0_idx7_inb : ∀ (v90 : IVec S16 32) (k0_hw7 : k0_chk7 v90), ∀ a x, ((![v90] : Fin 1 → IVec S16 32) a x).toNat < S34816.size a := fun v90 k0_hw7 => k0_hw7
def k0_off9 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c80_i32_27 : BitVec 32 := 80#32
  let v92 : BitVec 32 := Scalar.addi v64 c80_i32_27
  let v93 : Index := Scalar.indexCast v92
  ![v93.toNat]

def k0_chk8 (v95 : IVec S16 32) : Prop :=
  (∀ a x, ((![v95] : Fin 1 → IVec S16 32) a x).toNat < S34816.size a)
theorem k0_idx8_inb : ∀ (v95 : IVec S16 32) (k0_hw8 : k0_chk8 v95), ∀ a x, ((![v95] : Fin 1 → IVec S16 32) a x).toNat < S34816.size a := fun v95 k0_hw8 => k0_hw8
def k0_off10 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c96_i32_28 : BitVec 32 := 96#32
  let v97 : BitVec 32 := Scalar.addi v64 c96_i32_28
  let v98 : Index := Scalar.indexCast v97
  ![v98.toNat]

def k0_chk9 (v100 : IVec S16 32) : Prop :=
  (∀ a x, ((![v100] : Fin 1 → IVec S16 32) a x).toNat < S34816.size a)
theorem k0_idx9_inb : ∀ (v100 : IVec S16 32) (k0_hw9 : k0_chk9 v100), ∀ a x, ((![v100] : Fin 1 → IVec S16 32) a x).toNat < S34816.size a := fun v100 k0_hw9 => k0_hw9
def k0_off11 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c112_i32_29 : BitVec 32 := 112#32
  let v102 : BitVec 32 := Scalar.addi v64 c112_i32_29
  let v103 : Index := Scalar.indexCast v102
  ![v103.toNat]

def k0_chk10 (v105 : IVec S16 32) : Prop :=
  (∀ a x, ((![v105] : Fin 1 → IVec S16 32) a x).toNat < S34816.size a)
theorem k0_idx10_inb : ∀ (v105 : IVec S16 32) (k0_hw10 : k0_chk10 v105), ∀ a x, ((![v105] : Fin 1 → IVec S16 32) a x).toNat < S34816.size a := fun v105 k0_hw10 => k0_hw10
def k0_off12 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c128_i32_30 : BitVec 32 := 128#32
  let v107 : BitVec 32 := Scalar.addi v64 c128_i32_30
  let v108 : Index := Scalar.indexCast v107
  ![v108.toNat]

def k0_chk11 (v110 : IVec S16 32) : Prop :=
  (∀ a x, ((![v110] : Fin 1 → IVec S16 32) a x).toNat < S34816.size a)
theorem k0_idx11_inb : ∀ (v110 : IVec S16 32) (k0_hw11 : k0_chk11 v110), ∀ a x, ((![v110] : Fin 1 → IVec S16 32) a x).toNat < S34816.size a := fun v110 k0_hw11 => k0_hw11
def k0_off13 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c144_i32_31 : BitVec 32 := 144#32
  let v112 : BitVec 32 := Scalar.addi v64 c144_i32_31
  let v113 : Index := Scalar.indexCast v112
  ![v113.toNat]

def k0_chk12 (v115 : IVec S16 32) : Prop :=
  (∀ a x, ((![v115] : Fin 1 → IVec S16 32) a x).toNat < S34816.size a)
theorem k0_idx12_inb : ∀ (v115 : IVec S16 32) (k0_hw12 : k0_chk12 v115), ∀ a x, ((![v115] : Fin 1 → IVec S16 32) a x).toNat < S34816.size a := fun v115 k0_hw12 => k0_hw12
def k0_off14 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c160_i32_32 : BitVec 32 := 160#32
  let v117 : BitVec 32 := Scalar.addi v64 c160_i32_32
  let v118 : Index := Scalar.indexCast v117
  ![v118.toNat]

def k0_chk13 (v120 : IVec S16 32) : Prop :=
  (∀ a x, ((![v120] : Fin 1 → IVec S16 32) a x).toNat < S34816.size a)
theorem k0_idx13_inb : ∀ (v120 : IVec S16 32) (k0_hw13 : k0_chk13 v120), ∀ a x, ((![v120] : Fin 1 → IVec S16 32) a x).toNat < S34816.size a := fun v120 k0_hw13 => k0_hw13
def k0_off15 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c176_i32_33 : BitVec 32 := 176#32
  let v122 : BitVec 32 := Scalar.addi v64 c176_i32_33
  let v123 : Index := Scalar.indexCast v122
  ![v123.toNat]

def k0_chk14 (v125 : IVec S16 32) : Prop :=
  (∀ a x, ((![v125] : Fin 1 → IVec S16 32) a x).toNat < S34816.size a)
theorem k0_idx14_inb : ∀ (v125 : IVec S16 32) (k0_hw14 : k0_chk14 v125), ∀ a x, ((![v125] : Fin 1 → IVec S16 32) a x).toNat < S34816.size a := fun v125 k0_hw14 => k0_hw14
def k0_off16 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c192_i32_34 : BitVec 32 := 192#32
  let v127 : BitVec 32 := Scalar.addi v64 c192_i32_34
  let v128 : Index := Scalar.indexCast v127
  ![v128.toNat]

def k0_chk15 (v130 : IVec S16 32) : Prop :=
  (∀ a x, ((![v130] : Fin 1 → IVec S16 32) a x).toNat < S34816.size a)
theorem k0_idx15_inb : ∀ (v130 : IVec S16 32) (k0_hw15 : k0_chk15 v130), ∀ a x, ((![v130] : Fin 1 → IVec S16 32) a x).toNat < S34816.size a := fun v130 k0_hw15 => k0_hw15
def k0_off17 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c208_i32_35 : BitVec 32 := 208#32
  let v132 : BitVec 32 := Scalar.addi v64 c208_i32_35
  let v133 : Index := Scalar.indexCast v132
  ![v133.toNat]

def k0_chk16 (v135 : IVec S16 32) : Prop :=
  (∀ a x, ((![v135] : Fin 1 → IVec S16 32) a x).toNat < S34816.size a)
theorem k0_idx16_inb : ∀ (v135 : IVec S16 32) (k0_hw16 : k0_chk16 v135), ∀ a x, ((![v135] : Fin 1 → IVec S16 32) a x).toNat < S34816.size a := fun v135 k0_hw16 => k0_hw16
def k0_off18 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c224_i32_36 : BitVec 32 := 224#32
  let v137 : BitVec 32 := Scalar.addi v64 c224_i32_36
  let v138 : Index := Scalar.indexCast v137
  ![v138.toNat]

def k0_chk17 (v140 : IVec S16 32) : Prop :=
  (∀ a x, ((![v140] : Fin 1 → IVec S16 32) a x).toNat < S34816.size a)
theorem k0_idx17_inb : ∀ (v140 : IVec S16 32) (k0_hw17 : k0_chk17 v140), ∀ a x, ((![v140] : Fin 1 → IVec S16 32) a x).toNat < S34816.size a := fun v140 k0_hw17 => k0_hw17
def k0_off19 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c256_i32_21 : BitVec 32 := 256#32
  let v64 : BitVec 32 := Scalar.muli arg11 c256_i32_21
  let c240_i32_37 : BitVec 32 := 240#32
  let v142 : BitVec 32 := Scalar.addi v64 c240_i32_37
  let v143 : Index := Scalar.indexCast v142
  ![v143.toNat]
@[reducible] def k0_t3_loop : Scf.Loop 32 :=
  let c0_i32_16 : BitVec 32 := 0#32
  let c16_i32_17 : BitVec 32 := 16#32
  let v56 : BitVec 32 := Scalar.addi c0_i32_16 c16_i32_17
  let c1_i32_18 : BitVec 32 := 1#32
  ⟨c0_i32_16, v56, c1_i32_18⟩
def k0_cond1 (k0_t3 : Fin k0_t3_loop.trips) : BitVec 1 :=
  let c0_i32_16 : BitVec 32 := 0#32
  let c1_i32_18 : BitVec 32 := 1#32
  let arg11 : BitVec 32 := Scf.iv c0_i32_16 c1_i32_18 k0_t3
  let c1_i32_21 : BitVec 32 := 1#32
  let v62 : BitVec 1 := Scalar.cmpi .sge arg11 c1_i32_21
  let v63 : BitVec 32 := Scalar.extui v62
  let c0_i32_22 : BitVec 32 := 0#32
  let v64 : BitVec 1 := Scalar.cmpi .ne v63 c0_i32_22
  v64

def k0_off20 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_20 : BitVec 32 := 2#32
  let c0_i32_16 : BitVec 32 := 0#32
  let c1_i32_18 : BitVec 32 := 1#32
  let arg11 : BitVec 32 := Scf.iv c0_i32_16 c1_i32_18 k0_t3
  let v61 : BitVec 32 := Scalar.muli c2_i32_20 arg11
  let c1_i32_38 : BitVec 32 := 1#32
  let v87 : BitVec 32 := Scalar.subi v61 c1_i32_38
  let c128_i32_39 : BitVec 32 := 128#32
  let v88 : BitVec 32 := Scalar.muli v87 c128_i32_39
  let v89 : BitVec 32 := Scalar.addi v2 v88
  let c256_i32_40 : BitVec 32 := 256#32
  let v90 : BitVec 32 := Scalar.muli v89 c256_i32_40
  ![v90.toNat]
def k0_off21 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_20 : BitVec 32 := 2#32
  let c0_i32_16 : BitVec 32 := 0#32
  let c1_i32_18 : BitVec 32 := 1#32
  let arg11 : BitVec 32 := Scf.iv c0_i32_16 c1_i32_18 k0_t3
  let v61 : BitVec 32 := Scalar.muli c2_i32_20 arg11
  let c128_i32_23 : BitVec 32 := 128#32
  let v65 : BitVec 32 := Scalar.muli v61 c128_i32_23
  let v66 : BitVec 32 := Scalar.addi v2 v65
  let c256_i32_24 : BitVec 32 := 256#32
  let v67 : BitVec 32 := Scalar.muli v66 c256_i32_24
  ![v67.toNat]
@[reducible] def k0_t4_loop : Scf.Loop 32 :=
  let c0_i32_28 : BitVec 32 := 0#32
  let c128_i32_29 : BitVec 32 := 128#32
  let v72 : BitVec 32 := Scalar.addi c0_i32_28 c128_i32_29
  let c1_i32_30 : BitVec 32 := 1#32
  ⟨c0_i32_28, v72, c1_i32_30⟩

def k0_chk18 (v88 : IVec S16 32) : Prop :=
  (∀ a x, ((![v88] : Fin 1 → IVec S16 32) a x).toNat < S4096.size a)
theorem k0_idx18_inb : ∀ (v88 : IVec S16 32) (k0_hw18 : k0_chk18 v88), ∀ a x, ((![v88] : Fin 1 → IVec S16 32) a x).toNat < S4096.size a := fun v88 k0_hw18 => k0_hw18

def k0_chk19 (v91 : IVec S16 32) : Prop :=
  (∀ a x, ((![v91] : Fin 1 → IVec S16 32) a x).toNat < S34816.size a)
theorem k0_idx19_inb : ∀ (v91 : IVec S16 32) (k0_hw19 : k0_chk19 v91), ∀ a x, ((![v91] : Fin 1 → IVec S16 32) a x).toNat < S34816.size a := fun v91 k0_hw19 => k0_hw19
def k0_off22 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c0_i32_39 : BitVec 32 := 0#32
  let v93 : BitVec 32 := Scalar.addi v90 c0_i32_39
  let v94 : Index := Scalar.indexCast v93
  ![v94.toNat]

def k0_chk20 (v96 : IVec S16 32) : Prop :=
  (∀ a x, ((![v96] : Fin 1 → IVec S16 32) a x).toNat < S34816.size a)
theorem k0_idx20_inb : ∀ (v96 : IVec S16 32) (k0_hw20 : k0_chk20 v96), ∀ a x, ((![v96] : Fin 1 → IVec S16 32) a x).toNat < S34816.size a := fun v96 k0_hw20 => k0_hw20
def k0_off23 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c16_i32_40 : BitVec 32 := 16#32
  let v98 : BitVec 32 := Scalar.addi v90 c16_i32_40
  let v99 : Index := Scalar.indexCast v98
  ![v99.toNat]

def k0_chk21 (v101 : IVec S16 32) : Prop :=
  (∀ a x, ((![v101] : Fin 1 → IVec S16 32) a x).toNat < S34816.size a)
theorem k0_idx21_inb : ∀ (v101 : IVec S16 32) (k0_hw21 : k0_chk21 v101), ∀ a x, ((![v101] : Fin 1 → IVec S16 32) a x).toNat < S34816.size a := fun v101 k0_hw21 => k0_hw21
def k0_off24 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c32_i32_41 : BitVec 32 := 32#32
  let v103 : BitVec 32 := Scalar.addi v90 c32_i32_41
  let v104 : Index := Scalar.indexCast v103
  ![v104.toNat]

def k0_chk22 (v106 : IVec S16 32) : Prop :=
  (∀ a x, ((![v106] : Fin 1 → IVec S16 32) a x).toNat < S34816.size a)
theorem k0_idx22_inb : ∀ (v106 : IVec S16 32) (k0_hw22 : k0_chk22 v106), ∀ a x, ((![v106] : Fin 1 → IVec S16 32) a x).toNat < S34816.size a := fun v106 k0_hw22 => k0_hw22
def k0_off25 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c48_i32_42 : BitVec 32 := 48#32
  let v108 : BitVec 32 := Scalar.addi v90 c48_i32_42
  let v109 : Index := Scalar.indexCast v108
  ![v109.toNat]

def k0_chk23 (v111 : IVec S16 32) : Prop :=
  (∀ a x, ((![v111] : Fin 1 → IVec S16 32) a x).toNat < S34816.size a)
theorem k0_idx23_inb : ∀ (v111 : IVec S16 32) (k0_hw23 : k0_chk23 v111), ∀ a x, ((![v111] : Fin 1 → IVec S16 32) a x).toNat < S34816.size a := fun v111 k0_hw23 => k0_hw23
def k0_off26 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c64_i32_43 : BitVec 32 := 64#32
  let v113 : BitVec 32 := Scalar.addi v90 c64_i32_43
  let v114 : Index := Scalar.indexCast v113
  ![v114.toNat]

def k0_chk24 (v116 : IVec S16 32) : Prop :=
  (∀ a x, ((![v116] : Fin 1 → IVec S16 32) a x).toNat < S34816.size a)
theorem k0_idx24_inb : ∀ (v116 : IVec S16 32) (k0_hw24 : k0_chk24 v116), ∀ a x, ((![v116] : Fin 1 → IVec S16 32) a x).toNat < S34816.size a := fun v116 k0_hw24 => k0_hw24
def k0_off27 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c80_i32_44 : BitVec 32 := 80#32
  let v118 : BitVec 32 := Scalar.addi v90 c80_i32_44
  let v119 : Index := Scalar.indexCast v118
  ![v119.toNat]

def k0_chk25 (v121 : IVec S16 32) : Prop :=
  (∀ a x, ((![v121] : Fin 1 → IVec S16 32) a x).toNat < S34816.size a)
theorem k0_idx25_inb : ∀ (v121 : IVec S16 32) (k0_hw25 : k0_chk25 v121), ∀ a x, ((![v121] : Fin 1 → IVec S16 32) a x).toNat < S34816.size a := fun v121 k0_hw25 => k0_hw25
def k0_off28 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c96_i32_45 : BitVec 32 := 96#32
  let v123 : BitVec 32 := Scalar.addi v90 c96_i32_45
  let v124 : Index := Scalar.indexCast v123
  ![v124.toNat]

def k0_chk26 (v126 : IVec S16 32) : Prop :=
  (∀ a x, ((![v126] : Fin 1 → IVec S16 32) a x).toNat < S34816.size a)
theorem k0_idx26_inb : ∀ (v126 : IVec S16 32) (k0_hw26 : k0_chk26 v126), ∀ a x, ((![v126] : Fin 1 → IVec S16 32) a x).toNat < S34816.size a := fun v126 k0_hw26 => k0_hw26
def k0_off29 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c112_i32_46 : BitVec 32 := 112#32
  let v128 : BitVec 32 := Scalar.addi v90 c112_i32_46
  let v129 : Index := Scalar.indexCast v128
  ![v129.toNat]

def k0_chk27 (v131 : IVec S16 32) : Prop :=
  (∀ a x, ((![v131] : Fin 1 → IVec S16 32) a x).toNat < S34816.size a)
theorem k0_idx27_inb : ∀ (v131 : IVec S16 32) (k0_hw27 : k0_chk27 v131), ∀ a x, ((![v131] : Fin 1 → IVec S16 32) a x).toNat < S34816.size a := fun v131 k0_hw27 => k0_hw27
def k0_off30 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c128_i32_47 : BitVec 32 := 128#32
  let v133 : BitVec 32 := Scalar.addi v90 c128_i32_47
  let v134 : Index := Scalar.indexCast v133
  ![v134.toNat]

def k0_chk28 (v136 : IVec S16 32) : Prop :=
  (∀ a x, ((![v136] : Fin 1 → IVec S16 32) a x).toNat < S34816.size a)
theorem k0_idx28_inb : ∀ (v136 : IVec S16 32) (k0_hw28 : k0_chk28 v136), ∀ a x, ((![v136] : Fin 1 → IVec S16 32) a x).toNat < S34816.size a := fun v136 k0_hw28 => k0_hw28
def k0_off31 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c144_i32_48 : BitVec 32 := 144#32
  let v138 : BitVec 32 := Scalar.addi v90 c144_i32_48
  let v139 : Index := Scalar.indexCast v138
  ![v139.toNat]

def k0_chk29 (v141 : IVec S16 32) : Prop :=
  (∀ a x, ((![v141] : Fin 1 → IVec S16 32) a x).toNat < S34816.size a)
theorem k0_idx29_inb : ∀ (v141 : IVec S16 32) (k0_hw29 : k0_chk29 v141), ∀ a x, ((![v141] : Fin 1 → IVec S16 32) a x).toNat < S34816.size a := fun v141 k0_hw29 => k0_hw29
def k0_off32 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c160_i32_49 : BitVec 32 := 160#32
  let v143 : BitVec 32 := Scalar.addi v90 c160_i32_49
  let v144 : Index := Scalar.indexCast v143
  ![v144.toNat]

def k0_chk30 (v146 : IVec S16 32) : Prop :=
  (∀ a x, ((![v146] : Fin 1 → IVec S16 32) a x).toNat < S34816.size a)
theorem k0_idx30_inb : ∀ (v146 : IVec S16 32) (k0_hw30 : k0_chk30 v146), ∀ a x, ((![v146] : Fin 1 → IVec S16 32) a x).toNat < S34816.size a := fun v146 k0_hw30 => k0_hw30
def k0_off33 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c176_i32_50 : BitVec 32 := 176#32
  let v148 : BitVec 32 := Scalar.addi v90 c176_i32_50
  let v149 : Index := Scalar.indexCast v148
  ![v149.toNat]

def k0_chk31 (v151 : IVec S16 32) : Prop :=
  (∀ a x, ((![v151] : Fin 1 → IVec S16 32) a x).toNat < S34816.size a)
theorem k0_idx31_inb : ∀ (v151 : IVec S16 32) (k0_hw31 : k0_chk31 v151), ∀ a x, ((![v151] : Fin 1 → IVec S16 32) a x).toNat < S34816.size a := fun v151 k0_hw31 => k0_hw31
def k0_off34 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c192_i32_51 : BitVec 32 := 192#32
  let v153 : BitVec 32 := Scalar.addi v90 c192_i32_51
  let v154 : Index := Scalar.indexCast v153
  ![v154.toNat]

def k0_chk32 (v156 : IVec S16 32) : Prop :=
  (∀ a x, ((![v156] : Fin 1 → IVec S16 32) a x).toNat < S34816.size a)
theorem k0_idx32_inb : ∀ (v156 : IVec S16 32) (k0_hw32 : k0_chk32 v156), ∀ a x, ((![v156] : Fin 1 → IVec S16 32) a x).toNat < S34816.size a := fun v156 k0_hw32 => k0_hw32
def k0_off35 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c208_i32_52 : BitVec 32 := 208#32
  let v158 : BitVec 32 := Scalar.addi v90 c208_i32_52
  let v159 : Index := Scalar.indexCast v158
  ![v159.toNat]

def k0_chk33 (v161 : IVec S16 32) : Prop :=
  (∀ a x, ((![v161] : Fin 1 → IVec S16 32) a x).toNat < S34816.size a)
theorem k0_idx33_inb : ∀ (v161 : IVec S16 32) (k0_hw33 : k0_chk33 v161), ∀ a x, ((![v161] : Fin 1 → IVec S16 32) a x).toNat < S34816.size a := fun v161 k0_hw33 => k0_hw33
def k0_off36 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c224_i32_53 : BitVec 32 := 224#32
  let v163 : BitVec 32 := Scalar.addi v90 c224_i32_53
  let v164 : Index := Scalar.indexCast v163
  ![v164.toNat]

def k0_chk34 (v166 : IVec S16 32) : Prop :=
  (∀ a x, ((![v166] : Fin 1 → IVec S16 32) a x).toNat < S34816.size a)
theorem k0_idx34_inb : ∀ (v166 : IVec S16 32) (k0_hw34 : k0_chk34 v166), ∀ a x, ((![v166] : Fin 1 → IVec S16 32) a x).toNat < S34816.size a := fun v166 k0_hw34 => k0_hw34
def k0_off37 (k0_t4 : Fin k0_t4_loop.trips) : Fin 1 → Nat :=
  let c0_i32_28 : BitVec 32 := 0#32
  let c1_i32_30 : BitVec 32 := 1#32
  let arg12 : BitVec 32 := Scf.iv c0_i32_28 c1_i32_30 k0_t4
  let c256_i32_38 : BitVec 32 := 256#32
  let v90 : BitVec 32 := Scalar.muli arg12 c256_i32_38
  let c240_i32_54 : BitVec 32 := 240#32
  let v168 : BitVec 32 := Scalar.addi v90 c240_i32_54
  let v169 : Index := Scalar.indexCast v168
  ![v169.toNat]
def k0_off38 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_20 : BitVec 32 := 2#32
  let c0_i32_16 : BitVec 32 := 0#32
  let c1_i32_18 : BitVec 32 := 1#32
  let arg11 : BitVec 32 := Scf.iv c0_i32_16 c1_i32_18 k0_t3
  let v61 : BitVec 32 := Scalar.muli c2_i32_20 arg11
  let c1_i32_34 : BitVec 32 := 1#32
  let v78 : BitVec 32 := Scalar.addi v61 c1_i32_34
  let c128_i32_35 : BitVec 32 := 128#32
  let v79 : BitVec 32 := Scalar.muli v78 c128_i32_35
  let v80 : BitVec 32 := Scalar.addi v2 v79
  let c256_i32_36 : BitVec 32 := 256#32
  let v81 : BitVec 32 := Scalar.muli v80 c256_i32_36
  ![v81.toNat]
def k0_cond2 (k0_t3 : Fin k0_t3_loop.trips) : BitVec 1 :=
  let c0_i32_16 : BitVec 32 := 0#32
  let c1_i32_18 : BitVec 32 := 1#32
  let arg11 : BitVec 32 := Scf.iv c0_i32_16 c1_i32_18 k0_t3
  let c15_i32 : BitVec 32 := 15#32
  let v84 : BitVec 1 := Scalar.cmpi .slt arg11 c15_i32
  let v85 : BitVec 32 := Scalar.extui v84
  let c0_i32_37 : BitVec 32 := 0#32
  let v86 : BitVec 1 := Scalar.cmpi .ne v85 c0_i32_37
  v86

@[reducible] def k0_t5_loop : Scf.Loop 32 :=
  let c0_i32_41 : BitVec 32 := 0#32
  let c128_i32_42 : BitVec 32 := 128#32
  let v89 : BitVec 32 := Scalar.addi c0_i32_41 c128_i32_42
  let c1_i32_43 : BitVec 32 := 1#32
  ⟨c0_i32_41, v89, c1_i32_43⟩

def k0_chk35 (k0_t3 : Fin k0_t3_loop.trips) (v91 : IVec S16 32) : Prop :=
  (∀ (k0_h2 : k0_cond2 k0_t3 = 1#1), ∀ a x, ((![v91] : Fin 1 → IVec S16 32) a x).toNat < S4096.size a)
theorem k0_idx35_inb : ∀ (k0_t3 : Fin k0_t3_loop.trips) (v91 : IVec S16 32) (k0_hw35 : k0_chk35 k0_t3 v91), ∀ (k0_h2 : k0_cond2 k0_t3 = 1#1), ∀ a x, ((![v91] : Fin 1 → IVec S16 32) a x).toNat < S4096.size a := fun k0_t3 v91 k0_hw35 k0_h2 => k0_hw35 k0_h2

def k0_chk36 (k0_t3 : Fin k0_t3_loop.trips) (v94 : IVec S16 32) : Prop :=
  (∀ (k0_h2 : k0_cond2 k0_t3 = 1#1), ∀ a x, ((![v94] : Fin 1 → IVec S16 32) a x).toNat < S34816.size a)
theorem k0_idx36_inb : ∀ (k0_t3 : Fin k0_t3_loop.trips) (v94 : IVec S16 32) (k0_hw36 : k0_chk36 k0_t3 v94), ∀ (k0_h2 : k0_cond2 k0_t3 = 1#1), ∀ a x, ((![v94] : Fin 1 → IVec S16 32) a x).toNat < S34816.size a := fun k0_t3 v94 k0_hw36 k0_h2 => k0_hw36 k0_h2
def k0_off39 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c0_i32_46 : BitVec 32 := 0#32
  let v96 : BitVec 32 := Scalar.addi v93 c0_i32_46
  let v97 : Index := Scalar.indexCast v96
  ![v97.toNat]

def k0_chk37 (k0_t3 : Fin k0_t3_loop.trips) (v99 : IVec S16 32) : Prop :=
  (∀ (k0_h2 : k0_cond2 k0_t3 = 1#1), ∀ a x, ((![v99] : Fin 1 → IVec S16 32) a x).toNat < S34816.size a)
theorem k0_idx37_inb : ∀ (k0_t3 : Fin k0_t3_loop.trips) (v99 : IVec S16 32) (k0_hw37 : k0_chk37 k0_t3 v99), ∀ (k0_h2 : k0_cond2 k0_t3 = 1#1), ∀ a x, ((![v99] : Fin 1 → IVec S16 32) a x).toNat < S34816.size a := fun k0_t3 v99 k0_hw37 k0_h2 => k0_hw37 k0_h2
def k0_off40 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c16_i32_47 : BitVec 32 := 16#32
  let v101 : BitVec 32 := Scalar.addi v93 c16_i32_47
  let v102 : Index := Scalar.indexCast v101
  ![v102.toNat]

def k0_chk38 (k0_t3 : Fin k0_t3_loop.trips) (v104 : IVec S16 32) : Prop :=
  (∀ (k0_h2 : k0_cond2 k0_t3 = 1#1), ∀ a x, ((![v104] : Fin 1 → IVec S16 32) a x).toNat < S34816.size a)
theorem k0_idx38_inb : ∀ (k0_t3 : Fin k0_t3_loop.trips) (v104 : IVec S16 32) (k0_hw38 : k0_chk38 k0_t3 v104), ∀ (k0_h2 : k0_cond2 k0_t3 = 1#1), ∀ a x, ((![v104] : Fin 1 → IVec S16 32) a x).toNat < S34816.size a := fun k0_t3 v104 k0_hw38 k0_h2 => k0_hw38 k0_h2
def k0_off41 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c32_i32_48 : BitVec 32 := 32#32
  let v106 : BitVec 32 := Scalar.addi v93 c32_i32_48
  let v107 : Index := Scalar.indexCast v106
  ![v107.toNat]

def k0_chk39 (k0_t3 : Fin k0_t3_loop.trips) (v109 : IVec S16 32) : Prop :=
  (∀ (k0_h2 : k0_cond2 k0_t3 = 1#1), ∀ a x, ((![v109] : Fin 1 → IVec S16 32) a x).toNat < S34816.size a)
theorem k0_idx39_inb : ∀ (k0_t3 : Fin k0_t3_loop.trips) (v109 : IVec S16 32) (k0_hw39 : k0_chk39 k0_t3 v109), ∀ (k0_h2 : k0_cond2 k0_t3 = 1#1), ∀ a x, ((![v109] : Fin 1 → IVec S16 32) a x).toNat < S34816.size a := fun k0_t3 v109 k0_hw39 k0_h2 => k0_hw39 k0_h2
def k0_off42 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c48_i32_49 : BitVec 32 := 48#32
  let v111 : BitVec 32 := Scalar.addi v93 c48_i32_49
  let v112 : Index := Scalar.indexCast v111
  ![v112.toNat]

def k0_chk40 (k0_t3 : Fin k0_t3_loop.trips) (v114 : IVec S16 32) : Prop :=
  (∀ (k0_h2 : k0_cond2 k0_t3 = 1#1), ∀ a x, ((![v114] : Fin 1 → IVec S16 32) a x).toNat < S34816.size a)
theorem k0_idx40_inb : ∀ (k0_t3 : Fin k0_t3_loop.trips) (v114 : IVec S16 32) (k0_hw40 : k0_chk40 k0_t3 v114), ∀ (k0_h2 : k0_cond2 k0_t3 = 1#1), ∀ a x, ((![v114] : Fin 1 → IVec S16 32) a x).toNat < S34816.size a := fun k0_t3 v114 k0_hw40 k0_h2 => k0_hw40 k0_h2
def k0_off43 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c64_i32_50 : BitVec 32 := 64#32
  let v116 : BitVec 32 := Scalar.addi v93 c64_i32_50
  let v117 : Index := Scalar.indexCast v116
  ![v117.toNat]

def k0_chk41 (k0_t3 : Fin k0_t3_loop.trips) (v119 : IVec S16 32) : Prop :=
  (∀ (k0_h2 : k0_cond2 k0_t3 = 1#1), ∀ a x, ((![v119] : Fin 1 → IVec S16 32) a x).toNat < S34816.size a)
theorem k0_idx41_inb : ∀ (k0_t3 : Fin k0_t3_loop.trips) (v119 : IVec S16 32) (k0_hw41 : k0_chk41 k0_t3 v119), ∀ (k0_h2 : k0_cond2 k0_t3 = 1#1), ∀ a x, ((![v119] : Fin 1 → IVec S16 32) a x).toNat < S34816.size a := fun k0_t3 v119 k0_hw41 k0_h2 => k0_hw41 k0_h2
def k0_off44 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c80_i32_51 : BitVec 32 := 80#32
  let v121 : BitVec 32 := Scalar.addi v93 c80_i32_51
  let v122 : Index := Scalar.indexCast v121
  ![v122.toNat]

def k0_chk42 (k0_t3 : Fin k0_t3_loop.trips) (v124 : IVec S16 32) : Prop :=
  (∀ (k0_h2 : k0_cond2 k0_t3 = 1#1), ∀ a x, ((![v124] : Fin 1 → IVec S16 32) a x).toNat < S34816.size a)
theorem k0_idx42_inb : ∀ (k0_t3 : Fin k0_t3_loop.trips) (v124 : IVec S16 32) (k0_hw42 : k0_chk42 k0_t3 v124), ∀ (k0_h2 : k0_cond2 k0_t3 = 1#1), ∀ a x, ((![v124] : Fin 1 → IVec S16 32) a x).toNat < S34816.size a := fun k0_t3 v124 k0_hw42 k0_h2 => k0_hw42 k0_h2
def k0_off45 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c96_i32_52 : BitVec 32 := 96#32
  let v126 : BitVec 32 := Scalar.addi v93 c96_i32_52
  let v127 : Index := Scalar.indexCast v126
  ![v127.toNat]

def k0_chk43 (k0_t3 : Fin k0_t3_loop.trips) (v129 : IVec S16 32) : Prop :=
  (∀ (k0_h2 : k0_cond2 k0_t3 = 1#1), ∀ a x, ((![v129] : Fin 1 → IVec S16 32) a x).toNat < S34816.size a)
theorem k0_idx43_inb : ∀ (k0_t3 : Fin k0_t3_loop.trips) (v129 : IVec S16 32) (k0_hw43 : k0_chk43 k0_t3 v129), ∀ (k0_h2 : k0_cond2 k0_t3 = 1#1), ∀ a x, ((![v129] : Fin 1 → IVec S16 32) a x).toNat < S34816.size a := fun k0_t3 v129 k0_hw43 k0_h2 => k0_hw43 k0_h2
def k0_off46 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c112_i32_53 : BitVec 32 := 112#32
  let v131 : BitVec 32 := Scalar.addi v93 c112_i32_53
  let v132 : Index := Scalar.indexCast v131
  ![v132.toNat]

def k0_chk44 (k0_t3 : Fin k0_t3_loop.trips) (v134 : IVec S16 32) : Prop :=
  (∀ (k0_h2 : k0_cond2 k0_t3 = 1#1), ∀ a x, ((![v134] : Fin 1 → IVec S16 32) a x).toNat < S34816.size a)
theorem k0_idx44_inb : ∀ (k0_t3 : Fin k0_t3_loop.trips) (v134 : IVec S16 32) (k0_hw44 : k0_chk44 k0_t3 v134), ∀ (k0_h2 : k0_cond2 k0_t3 = 1#1), ∀ a x, ((![v134] : Fin 1 → IVec S16 32) a x).toNat < S34816.size a := fun k0_t3 v134 k0_hw44 k0_h2 => k0_hw44 k0_h2
def k0_off47 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c128_i32_54 : BitVec 32 := 128#32
  let v136 : BitVec 32 := Scalar.addi v93 c128_i32_54
  let v137 : Index := Scalar.indexCast v136
  ![v137.toNat]

def k0_chk45 (k0_t3 : Fin k0_t3_loop.trips) (v139 : IVec S16 32) : Prop :=
  (∀ (k0_h2 : k0_cond2 k0_t3 = 1#1), ∀ a x, ((![v139] : Fin 1 → IVec S16 32) a x).toNat < S34816.size a)
theorem k0_idx45_inb : ∀ (k0_t3 : Fin k0_t3_loop.trips) (v139 : IVec S16 32) (k0_hw45 : k0_chk45 k0_t3 v139), ∀ (k0_h2 : k0_cond2 k0_t3 = 1#1), ∀ a x, ((![v139] : Fin 1 → IVec S16 32) a x).toNat < S34816.size a := fun k0_t3 v139 k0_hw45 k0_h2 => k0_hw45 k0_h2
def k0_off48 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c144_i32_55 : BitVec 32 := 144#32
  let v141 : BitVec 32 := Scalar.addi v93 c144_i32_55
  let v142 : Index := Scalar.indexCast v141
  ![v142.toNat]

def k0_chk46 (k0_t3 : Fin k0_t3_loop.trips) (v144 : IVec S16 32) : Prop :=
  (∀ (k0_h2 : k0_cond2 k0_t3 = 1#1), ∀ a x, ((![v144] : Fin 1 → IVec S16 32) a x).toNat < S34816.size a)
theorem k0_idx46_inb : ∀ (k0_t3 : Fin k0_t3_loop.trips) (v144 : IVec S16 32) (k0_hw46 : k0_chk46 k0_t3 v144), ∀ (k0_h2 : k0_cond2 k0_t3 = 1#1), ∀ a x, ((![v144] : Fin 1 → IVec S16 32) a x).toNat < S34816.size a := fun k0_t3 v144 k0_hw46 k0_h2 => k0_hw46 k0_h2
def k0_off49 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c160_i32_56 : BitVec 32 := 160#32
  let v146 : BitVec 32 := Scalar.addi v93 c160_i32_56
  let v147 : Index := Scalar.indexCast v146
  ![v147.toNat]

def k0_chk47 (k0_t3 : Fin k0_t3_loop.trips) (v149 : IVec S16 32) : Prop :=
  (∀ (k0_h2 : k0_cond2 k0_t3 = 1#1), ∀ a x, ((![v149] : Fin 1 → IVec S16 32) a x).toNat < S34816.size a)
theorem k0_idx47_inb : ∀ (k0_t3 : Fin k0_t3_loop.trips) (v149 : IVec S16 32) (k0_hw47 : k0_chk47 k0_t3 v149), ∀ (k0_h2 : k0_cond2 k0_t3 = 1#1), ∀ a x, ((![v149] : Fin 1 → IVec S16 32) a x).toNat < S34816.size a := fun k0_t3 v149 k0_hw47 k0_h2 => k0_hw47 k0_h2
def k0_off50 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c176_i32_57 : BitVec 32 := 176#32
  let v151 : BitVec 32 := Scalar.addi v93 c176_i32_57
  let v152 : Index := Scalar.indexCast v151
  ![v152.toNat]

def k0_chk48 (k0_t3 : Fin k0_t3_loop.trips) (v154 : IVec S16 32) : Prop :=
  (∀ (k0_h2 : k0_cond2 k0_t3 = 1#1), ∀ a x, ((![v154] : Fin 1 → IVec S16 32) a x).toNat < S34816.size a)
theorem k0_idx48_inb : ∀ (k0_t3 : Fin k0_t3_loop.trips) (v154 : IVec S16 32) (k0_hw48 : k0_chk48 k0_t3 v154), ∀ (k0_h2 : k0_cond2 k0_t3 = 1#1), ∀ a x, ((![v154] : Fin 1 → IVec S16 32) a x).toNat < S34816.size a := fun k0_t3 v154 k0_hw48 k0_h2 => k0_hw48 k0_h2
def k0_off51 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c192_i32_58 : BitVec 32 := 192#32
  let v156 : BitVec 32 := Scalar.addi v93 c192_i32_58
  let v157 : Index := Scalar.indexCast v156
  ![v157.toNat]

def k0_chk49 (k0_t3 : Fin k0_t3_loop.trips) (v159 : IVec S16 32) : Prop :=
  (∀ (k0_h2 : k0_cond2 k0_t3 = 1#1), ∀ a x, ((![v159] : Fin 1 → IVec S16 32) a x).toNat < S34816.size a)
theorem k0_idx49_inb : ∀ (k0_t3 : Fin k0_t3_loop.trips) (v159 : IVec S16 32) (k0_hw49 : k0_chk49 k0_t3 v159), ∀ (k0_h2 : k0_cond2 k0_t3 = 1#1), ∀ a x, ((![v159] : Fin 1 → IVec S16 32) a x).toNat < S34816.size a := fun k0_t3 v159 k0_hw49 k0_h2 => k0_hw49 k0_h2
def k0_off52 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c208_i32_59 : BitVec 32 := 208#32
  let v161 : BitVec 32 := Scalar.addi v93 c208_i32_59
  let v162 : Index := Scalar.indexCast v161
  ![v162.toNat]

def k0_chk50 (k0_t3 : Fin k0_t3_loop.trips) (v164 : IVec S16 32) : Prop :=
  (∀ (k0_h2 : k0_cond2 k0_t3 = 1#1), ∀ a x, ((![v164] : Fin 1 → IVec S16 32) a x).toNat < S34816.size a)
theorem k0_idx50_inb : ∀ (k0_t3 : Fin k0_t3_loop.trips) (v164 : IVec S16 32) (k0_hw50 : k0_chk50 k0_t3 v164), ∀ (k0_h2 : k0_cond2 k0_t3 = 1#1), ∀ a x, ((![v164] : Fin 1 → IVec S16 32) a x).toNat < S34816.size a := fun k0_t3 v164 k0_hw50 k0_h2 => k0_hw50 k0_h2
def k0_off53 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c224_i32_60 : BitVec 32 := 224#32
  let v166 : BitVec 32 := Scalar.addi v93 c224_i32_60
  let v167 : Index := Scalar.indexCast v166
  ![v167.toNat]

def k0_chk51 (k0_t3 : Fin k0_t3_loop.trips) (v169 : IVec S16 32) : Prop :=
  (∀ (k0_h2 : k0_cond2 k0_t3 = 1#1), ∀ a x, ((![v169] : Fin 1 → IVec S16 32) a x).toNat < S34816.size a)
theorem k0_idx51_inb : ∀ (k0_t3 : Fin k0_t3_loop.trips) (v169 : IVec S16 32) (k0_hw51 : k0_chk51 k0_t3 v169), ∀ (k0_h2 : k0_cond2 k0_t3 = 1#1), ∀ a x, ((![v169] : Fin 1 → IVec S16 32) a x).toNat < S34816.size a := fun k0_t3 v169 k0_hw51 k0_h2 => k0_hw51 k0_h2
def k0_off54 (k0_t5 : Fin k0_t5_loop.trips) : Fin 1 → Nat :=
  let c0_i32_41 : BitVec 32 := 0#32
  let c1_i32_43 : BitVec 32 := 1#32
  let arg12 : BitVec 32 := Scf.iv c0_i32_41 c1_i32_43 k0_t5
  let c256_i32_45 : BitVec 32 := 256#32
  let v93 : BitVec 32 := Scalar.muli arg12 c256_i32_45
  let c240_i32_61 : BitVec 32 := 240#32
  let v171 : BitVec 32 := Scalar.addi v93 c240_i32_61
  let v172 : Index := Scalar.indexCast v171
  ![v172.toNat]
def k0_off55 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c3968_i32 : BitVec 32 := 3968#32
  let v57 : BitVec 32 := Scalar.addi v2 c3968_i32
  let c256_i32 : BitVec 32 := 256#32
  let v58 : BitVec 32 := Scalar.muli v57 c256_i32
  ![v58.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x128x128 : Shape := ⟨3, ![8, 128, 128]⟩
abbrev S8x128x256 : Shape := ⟨3, ![8, 128, 256]⟩
abbrev S_ : Shape := ⟨0, ![]⟩
abbrev S8x1x256 : Shape := ⟨3, ![8, 1, 256]⟩
abbrev S8x129x256 : Shape := ⟨3, ![8, 129, 256]⟩
abbrev S8x16384 : Shape := ⟨2, ![8, 16384]⟩
abbrev S8x16384x1 : Shape := ⟨3, ![8, 16384, 1]⟩
abbrev S1 : Shape := ⟨1, ![1]⟩
abbrev S1x1x1 : Shape := ⟨3, ![1, 1, 1]⟩
abbrev S8x16384x256 : Shape := ⟨3, ![8, 16384, 256]⟩
abbrev S8x128x128x256 : Shape := ⟨4, ![8, 128, 128, 256]⟩

abbrev nBuf : Space → Nat
  | .hbm => 30
  | .vmem => 0
  | .smem => 0
  | _ => 0

abbrev bufTy : (tb : Table) → Fin (tcTables nBuf tb) → BufTy
  | .hbm, ⟨0, _⟩ => ⟨S8x128x128, .i32⟩
  | .hbm, ⟨1, _⟩ => ⟨S8x128x256, .f32⟩
  | .hbm, ⟨2, _⟩ => ⟨S_, .f32⟩
  | .hbm, ⟨3, _⟩ => ⟨S8x1x256, .f32⟩
  | .hbm, ⟨4, _⟩ => ⟨S8x129x256, .f32⟩
  | .hbm, ⟨5, _⟩ => ⟨S8x16384, .i32⟩
  | .hbm, ⟨6, _⟩ => ⟨S8x16384x1, .i32⟩
  | .hbm, ⟨7, _⟩ => ⟨S_, .i32⟩
  | .hbm, ⟨8, _⟩ => ⟨S8x16384x1, .i32⟩
  | .hbm, ⟨9, _⟩ => ⟨S8x16384x1, .i1⟩
  | .hbm, ⟨10, _⟩ => ⟨S_, .i32⟩
  | .hbm, ⟨11, _⟩ => ⟨S8x16384x1, .i32⟩
  | .hbm, ⟨12, _⟩ => ⟨S8x16384x1, .i32⟩
  | .hbm, ⟨13, _⟩ => ⟨S8x16384x1, .i32⟩
  | .hbm, ⟨14, _⟩ => ⟨S1, .i32⟩
  | .hbm, ⟨15, _⟩ => ⟨S_, .i32⟩
  | .hbm, ⟨16, _⟩ => ⟨S8x16384x1, .i32⟩
  | .hbm, ⟨17, _⟩ => ⟨S8x16384x1, .i1⟩
  | .hbm, ⟨18, _⟩ => ⟨S1x1x1, .i32⟩
  | .hbm, ⟨19, _⟩ => ⟨S8x16384x1, .i32⟩
  | .hbm, ⟨20, _⟩ => ⟨S8x16384x1, .i1⟩
  | .hbm, ⟨21, _⟩ => ⟨S8x16384x1, .i1⟩
  | .hbm, ⟨22, _⟩ => ⟨S_, .i1⟩
  | .hbm, ⟨23, _⟩ => ⟨S8x16384, .i1⟩
  | .hbm, ⟨24, _⟩ => ⟨S8x16384x256, .f32⟩
  | .hbm, ⟨25, _⟩ => ⟨S8x16384x256, .i1⟩
  | .hbm, ⟨26, _⟩ => ⟨S_, .f32⟩
  | .hbm, ⟨27, _⟩ => ⟨S8x16384x256, .f32⟩
  | .hbm, ⟨28, _⟩ => ⟨S8x16384x256, .f32⟩
  | .hbm, ⟨29, _⟩ => ⟨S8x128x128x256, .f32⟩
  | _, _ => ⟨S8x128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]
-- ==== Proof.Setup.lean ====
/-
  The tile kernel's setting: the launch theorem's view of the program, the resource algebra, the names of the buffers a
  tile works on, and the mathematics of what it computes, over natural-number positions (`chunkG`).
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped, and no SparseCore owns memory its tiles share. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
/-- The vector subcore a task runs on. -/
abbrev thr (d : Dev nD) (L : grid0.Coords) : Thread nD τ := V d (cV L) (jV L)

/-! ## The mathematics, over positions -/

/-- A rank-one array read at a natural number (the array's length is never exceeded where this is used). -/
def rd {s : Shape} {α : Type} (hs : ∀ a, 0 < s.size a) (f : s.Idx → α) (n : ℕ) : α :=
  f fun a => ⟨n % s.size a, Nat.mod_lt _ (hs a)⟩

theorem rd_val {s : Shape} {α : Type} (hs : ∀ a, 0 < s.size a) (f : s.Idx → α) (y : s.Idx) (n : ℕ)
    (hn : ∀ a, (y a).val = n) : rd hs f n = f y := by
  unfold rd; congr 1; funext a; apply Fin.ext
  show n % s.size a = (y a).val
  rw [← hn a]; exact Nat.mod_eq_of_lt (y a).isLt

theorem pos_T : ∀ a, 0 < S278528.size a := by decide
theorem pos_I : ∀ a, 0 < S131072.size a := by decide

/-- Word `n` of the padded table, read along its rows. -/
def tabN (ft : S278528.Idx → Elt F .f32) (n : ℕ) : Elt F .f32 := rd pos_T ft n
/-- Row number `n` of the flattened indices. -/
def idxN (fi : S131072.Idx → Elt F .i32) (n : ℕ) : ℕ := ((rd pos_I fi n : BitVec 32)).toNat

/-- Word `n` of the result: output row `n / 256` takes word `n % 256` of the table row its index names, in the block of 136 rows
    its batch member owns. -/
def outN (ft : S278528.Idx → Elt F .f32) (fi : S131072.Idx → Elt F .i32) (n : ℕ) : Elt F .f32 :=
  tabN ft ((n / 4194304) * 34816 + 256 * idxN fi (n / 256) + n % 256)

/-- Task `(c, s)` is worker `2 s + c`. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- What worker `w`'s chunk `i` holds at word `y`. -/
def chunkN (ft : S278528.Idx → Elt F .f32) (fi : S131072.Idx → Elt F .i32) (w i y : ℕ) : Elt F .f32 :=
  outN ft fi (w * 1048576 + i * 32768 + y)

/-- Lane `x` of piece `g` of row `j` of a chunk, in terms of the worker's own part of the indices and of the table. -/
theorem chunkN_lane (ft : S278528.Idx → Elt F .f32) (fi : S131072.Idx → Elt F .i32) (w i j y : ℕ) (hi : i < 32) (hj : j < 128)
    (hy : y < 256) :
    chunkN ft fi w i (256 * j + y) = tabN ft ((w / 4) * 34816 + (256 * idxN fi (w * 4096 + (i * 128 + j)) + y)) := by
  have e1 : (w * 1048576 + i * 32768 + (256 * j + y)) / 4194304 = w / 4 := by omega
  have e2 : (w * 1048576 + i * 32768 + (256 * j + y)) / 256 = w * 4096 + (i * 128 + j) := by omega
  have e3 : (w * 1048576 + i * 32768 + (256 * j + y)) % 256 = y := by omega
  refine congrArg (tabN ft) ?_
  rw [e1, e2, e3, Nat.add_assoc]

end Cert.Proof.Gather

end
-- ==== Proof.Row.lean ====
/-
  Building a chunk in tile memory: one row is sixteen pieces of sixteen lanes, each gathered out of the table's scratch and
  stored, and the three loops that do it (`build_t2`, `build_t4`, `build_t5`).
-/
module

public import proofs.«01_k».proof.Proof.Setup
public import Idealize.ShloMosaic.Lib.WritesUnit

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aI" => (Memref.whole Cert.KernelIdeal.main_v4_scv : Memref Cert.KernelIdeal.sig Kind.scVector Space.hbm Cert.KernelIdeal.S131072 EltTy.i32)
local notation "aT" => (Memref.whole Cert.KernelIdeal.main_v3_scv : Memref Cert.KernelIdeal.sig Kind.scVector Space.hbm Cert.KernelIdeal.S278528 EltTy.f32)
local notation "aO" => (Memref.whole Cert.KernelIdeal.main_v5_scv : Memref Cert.KernelIdeal.sig Kind.scVector Space.hbm Cert.KernelIdeal.S33554432 EltTy.f32)
local notation "sI" => (Memref.whole Cert.KernelIdeal.cc0_scratch0 : Memref Cert.KernelIdeal.sig Kind.scVector Space.vmem Cert.KernelIdeal.S4096 EltTy.i32)
local notation "sT" => (Memref.whole Cert.KernelIdeal.cc0_scratch1 : Memref Cert.KernelIdeal.sig Kind.scVector Space.vmem Cert.KernelIdeal.S34816 EltTy.f32)
local notation "sA" => (Memref.whole Cert.KernelIdeal.cc0_scratch2 : Memref Cert.KernelIdeal.sig Kind.scVector Space.vmem Cert.KernelIdeal.S32768 EltTy.f32)
local notation "sB" => (Memref.whole Cert.KernelIdeal.cc0_scratch3 : Memref Cert.KernelIdeal.sig Kind.scVector Space.vmem Cert.KernelIdeal.S32768 EltTy.f32)

variable (d : Dev nD) (L : grid0.Coords)

/-- The table's scratch holds `tg`, read along positions. -/
def TabIs (tg : ℕ → Elt F .f32) : sProp 𝕄 :=
  iprop(∃ f, ⌜∀ y : S34816.Idx, (sT).view.read (Elt F) f y = tg (y 0).val⌝ ∗ (sT).view.loc (thr d L) ↦{fullShare} f)

/-- The index scratch holds, as unsigned words, `ig`. -/
def IdxIs (ig : ℕ → ℕ) : sProp 𝕄 :=
  iprop(∃ f, ⌜∀ y : S4096.Idx, ((sI).view.read (Elt F) f y : BitVec 32).toNat = ig (y 0).val⌝ ∗ (sI).view.loc (thr d L) ↦{fullShare} f)

/-- The words of a chunk buffer below `n` hold `g`, read along positions. -/
def BufTo (B : Memref sig .scVector .vmem S32768 .f32) (g : ℕ → Elt F .f32) (n : ℕ) : sProp 𝕄 :=
  iprop(∃ f, ⌜∀ y : S32768.Idx, (y 0).val < n → B.view.read (Elt F) f y = g (y 0).val⌝ ∗ B.view.loc (thr d L) ↦{fullShare} f)

/-- Sixteen lanes stored at offset `n` extend the words known from below `n` to below `n + 16`. -/
theorem read_store_lanes (B : Memref sig .scVector .vmem S32768 .f32) (g : ℕ → Elt F .f32) {n : ℕ} {off : Fin 1 → ℕ}
    (hin : ∀ a, off a + S16.size a ≤ S32768.size a) (hoff : off 0 = n) (f : B.view.ty.Contents (Elt F)) (w : S16.Idx → Elt F .f32)
    (hf : ∀ y : S32768.Idx, (y 0).val < n → B.view.read (Elt F) f y = g (y 0).val)
    (hw : ∀ x : S16.Idx, w x = g (n + (x 0).val)) :
    ∀ y : S32768.Idx, (y 0).val < n + 16 → B.view.read (Elt F)
      ((B.access (Rect.unit (s := S32768) off S16.size hin)).write (Elt F) f w Finset.univ) y = g (y 0).val := by
  intro y hy
  have key := View.read_writes_cons_unit B.view f hin w [] y (rfl : off = off)
  refine Eq.trans key ?_
  by_cases h : ∀ a, off a ≤ (y a).val ∧ (y a).val < off a + S16.size a
  · rw [dif_pos h]
    refine (hw _).trans (congrArg g ?_)
    have := (h 0).1
    show n + ((y 0).val - off 0) = (y 0).val
    omega
  · rw [dif_neg h]
    refine hf y ?_
    by_contra hc
    refine h fun a => ?_
    have ha : a = 0 := Subsingleton.elim _ _
    subst ha
    exact ⟨by omega, by show (y 0).val < off 0 + 16; omega⟩

/-- Gathering sixteen lanes of the table, from word `q` on: what comes back is the table's words there. -/
theorem gather_step {A : Prop} {dec : Decidable A} {v : IVec S16 32} {hl} {α : Type}
    {k : PLift A → (S34816.Idx → Elt F .f32) → Prog (TpuEff nD τ sig (Elt F) Λ₀ (.scVector ((L 0).castLE hcore0) ((L 1).castLE hsub0))) α}
    {Q : α → sProp 𝕄} (tg : ℕ → Elt F .f32) (R : sProp 𝕄) (q : ℕ)
    (hA : (∀ a x, ((![v] : Fin 1 → IVec S16 32) a x).toNat < S34816.size a) → A)
    (hv : ∀ x : S16.Idx, (v x).toNat = q + (x 0).val) (hq : q + 16 ≤ 34816)
    (hk : ∀ (h : PLift A) (f : S34816.Idx → Elt F .f32),
      (∀ h' : ∀ a x, ((![v] : Fin 1 → IVec S16 32) a x).toNat < S34816.size a, ∀ x : S16.Idx,
        loadIdx (F := F) (e := .f32) f ![v] h' x = tg (q + (x 0).val)) →
      iprop(TabIs d L tg ∗ R) ⊢ wp frame (wpE (defs₀ (F := F)) 𝒱₀ (thr d L) none) Set.univ (k h f) Q) :
    iprop(TabIs d L tg ∗ R) ⊢ wp frame (wpE (defs₀ (F := F)) 𝒱₀ (thr d L) none) Set.univ
      (.op (.assume A dec) fun h => .op (.load sT (Rect.whole S34816).toLoadRect hl) (k h)) Q := by
  have hx : ∀ x : S16.Idx, (x 0).val < 16 := fun x => (x 0).isLt
  have hall : ∀ a x, ((![v] : Fin 1 → IVec S16 32) a x).toNat < S34816.size a := fun a x => by
    have ha : a = 0 := Subsingleton.elim _ _
    subst ha
    show (v x).toNat < 34816
    have := hx x
    rw [hv]; omega
  rw [wp_assume_of _ _ _ _ (hA hall)]
  unfold TabIs at *
  iintro ⟨⟨%ft, %hft, Ht⟩, HR⟩
  iapply (wp_load_rect 𝒱₀ (thr d L) none Set.univ (m := sT) (r := Rect.whole S34816) (S := Finset.univ) (f := ft) (Finset.subset_univ _)) $$ Ht
  iintro Ht
  iapply (hk ⟨hA hall⟩ (((sT).access (Rect.whole S34816)).read (Elt F) ft) fun h' x => (hft _).trans (congrArg tg (by
    show 0 + 1 * (v x).toNat = _
    rw [Nat.zero_add, Nat.one_mul]; exact hv x)))
  isplitl [Ht]
  · iexists ft
    isplitr
    · ipureintro; exact hft
    iexact Ht
  iexact HR

/-- Storing sixteen lanes at word `n` of a chunk buffer, after the dead load of what was there. -/
theorem store_step {B : Memref sig .scVector .vmem S32768 .f32} {off : Fin 1 → ℕ}
    {hin : ∀ a, off a + S16.size a ≤ S32768.size a} {w : S16.Idx → Elt F .f32} {hl2 hs hb} {α : Type}
    {k : PUnit → Prog (TpuEff nD τ sig (Elt F) Λ₀ (.scVector ((L 0).castLE hcore0) ((L 1).castLE hsub0))) α} {Q : α → sProp 𝕄}
    (g : ℕ → Elt F .f32) (Tb R : sProp 𝕄) (n : ℕ) (hoff : off 0 = n) (hw : ∀ x : S16.Idx, w x = g (n + (x 0).val))
    (hk : iprop(Tb ∗ BufTo d L B g (n + 16) ∗ R) ⊢ wp frame (wpE (defs₀ (F := F)) 𝒱₀ (thr d L) none) Set.univ (k ⟨⟩) Q) :
    iprop(Tb ∗ BufTo d L B g n ∗ R) ⊢ wp frame (wpE (defs₀ (F := F)) 𝒱₀ (thr d L) none) Set.univ
      (.op (.load B (Rect.unit (s := S32768) off S16.size hin).toLoadRect hl2) fun _ =>
        .op (.store B (Rect.unit (s := S32768) off S16.size hin) w Finset.univ hs hb) k) Q := by
  unfold BufTo at *
  iintro ⟨HT, ⟨%fb, %hfb, Hb⟩, HR⟩
  iapply (wp_load 𝒱₀ (thr d L) none Set.univ (m := B) (S := Finset.univ) (Finset.subset_univ _)) $$ Hb
  iintro Hb
  iapply (wp_store 𝒱₀ (thr d L) none Set.univ (m := B) (r := Rect.unit (s := S32768) off S16.size hin) (Mk := Finset.univ)
    (f := fb) (S := Finset.univ) (Finset.subset_univ _)) $$ Hb
  iintro Hb
  iapply hk
  isplitl [HT]; · iexact HT
  isplitl [Hb]
  · iexists _
    isplitr
    swap; · iexact Hb
    ipureintro
    exact read_store_lanes B g hin hoff fb _ hfb hw
  iexact HR

/-- Reading an index by sixteen equal lanes: each lane of what comes back is that index. -/
theorem idx_step {A : Prop} {dec : Decidable A} {v : IVec S16 32} {hl} {α : Type}
    {k : PLift A → (S4096.Idx → BitVec 32) → Prog (TpuEff nD τ sig (Elt F) Λ₀ (.scVector ((L 0).castLE hcore0) ((L 1).castLE hsub0))) α}
    {Q : α → sProp 𝕄} (ig : ℕ → ℕ) (R : sProp 𝕄) (p : ℕ)
    (hA : (∀ a x, ((![v] : Fin 1 → IVec S16 32) a x).toNat < S4096.size a) → A)
    (hv : ∀ x : S16.Idx, (v x).toNat = p) (hp : p < 4096)
    (hk : ∀ (h : PLift A) (f : S4096.Idx → BitVec 32),
      (∀ h' : ∀ a x, ((![v] : Fin 1 → IVec S16 32) a x).toNat < S4096.size a, ∀ x : S16.Idx,
        (loadIdx (F := F) (e := .i32) f ![v] h' x : BitVec 32).toNat = ig p) →
      iprop(IdxIs d L ig ∗ R) ⊢ wp frame (wpE (defs₀ (F := F)) 𝒱₀ (thr d L) none) Set.univ (k h f) Q) :
    iprop(IdxIs d L ig ∗ R) ⊢ wp frame (wpE (defs₀ (F := F)) 𝒱₀ (thr d L) none) Set.univ
      (.op (.assume A dec) fun h => .op (.load sI (Rect.whole S4096).toLoadRect hl) (k h)) Q := by
  have hall : ∀ a x, ((![v] : Fin 1 → IVec S16 32) a x).toNat < S4096.size a := fun a x => by
    have ha : a = 0 := Subsingleton.elim _ _
    subst ha
    show (v x).toNat < 4096
    rw [hv]; exact hp
  rw [wp_assume_of _ _ _ _ (hA hall)]
  unfold IdxIs at *
  iintro ⟨⟨%fi, %hfi, Hi⟩, HR⟩
  iapply (wp_load_rect 𝒱₀ (thr d L) none Set.univ (m := sI) (r := Rect.whole S4096) (S := Finset.univ) (f := fi) (Finset.subset_univ _)) $$ Hi
  iintro Hi
  iapply (hk ⟨hA hall⟩ (((sI).access (Rect.whole S4096)).read (Elt F) fi) fun h' x => (hfi _).trans (congrArg ig (by
    show 0 + 1 * (v x).toNat = p
    rw [Nat.zero_add, Nat.one_mul]; exact hv x)))
  isplitl [Hi]
  · iexists fi
    isplitr
    · ipureintro; exact hfi
    iexact Hi
  iexact HR

/-! ## One piece of a row, in the worker's terms -/

section Piece

variable (ft : S278528.Idx → Elt F .f32) (fi : S131072.Idx → Elt F .i32)

/-- Worker `w`'s part of the table. -/
abbrev tabW (w : ℕ) (y : ℕ) : Elt F .f32 := tabN ft ((w / 4) * 34816 + y)
/-- Worker `w`'s indices, times the row length. -/
abbrev idxW (w : ℕ) (p : ℕ) : ℕ := 256 * idxN fi (w * 4096 + p)

/-- The gather of piece `o / 16` of row `j` of chunk `i`: its lanes are the chunk's words. -/
theorem piece_gather {A : Prop} {dec : Decidable A} {u pay : IVec S16 32} {hl} {α : Type}
    {k : PLift A → (S34816.Idx → Elt F .f32) → Prog (TpuEff nD τ sig (Elt F) Λ₀ (.scVector ((L 0).castLE hcore0) ((L 1).castLE hsub0))) α}
    {Q : α → sProp 𝕄}
    (hpre : ∀ n, idxN fi n ≤ 128) (R : sProp 𝕄) (w i j o : ℕ) (hi : i < 32) (hj : j < 128) (ho : o + 16 ≤ 256)
    (hA : (∀ a x, ((![addi u pay] : Fin 1 → IVec S16 32) a x).toNat < S34816.size a) → A)
    (hu : ∀ x : S16.Idx, (u x).toNat = idxW fi w (i * 128 + j)) (hp : ∀ x : S16.Idx, (pay x).toNat = o + (x 0).val)
    (hk : ∀ (h : PLift A) (f : S34816.Idx → Elt F .f32),
      (∀ h' : ∀ a x, ((![addi u pay] : Fin 1 → IVec S16 32) a x).toNat < S34816.size a, ∀ x : S16.Idx,
        loadIdx (F := F) (e := .f32) f ![addi u pay] h' x = chunkN ft fi w i (256 * j + o + (x 0).val)) →
      iprop(TabIs d L (tabW ft w) ∗ R) ⊢ wp frame (wpE (defs₀ (F := F)) 𝒱₀ (thr d L) none) Set.univ (k h f) Q) :
    iprop(TabIs d L (tabW ft w) ∗ R) ⊢ wp frame (wpE (defs₀ (F := F)) 𝒱₀ (thr d L) none) Set.univ
      (.op (.assume A dec) fun h => .op (.load sT (Rect.whole S34816).toLoadRect hl) (k h)) Q := by
  have hle := hpre (w * 4096 + (i * 128 + j))
  refine gather_step d L (tabW ft w) R (idxW fi w (i * 128 + j) + o) hA (fun x => ?_) (by unfold idxW; omega)
    fun h f hf => hk h f fun h' x => (hf h' x).trans ?_
  · have hx : (x 0).val < 16 := (x 0).isLt
    show (u x + pay x).toNat = _
    rw [BitVec.toNat_add, hu, hp]
    unfold idxW
    omega
  · have hx : (x 0).val < 16 := (x 0).isLt
    have e := chunkN_lane ft fi w i j (o + (x 0).val) hi hj (by omega)
    rw [Nat.add_assoc (256 * j), e]
    unfold tabW idxW
    rw [Nat.add_assoc (256 * _)]

/-- The sixteen payloads' lanes: lane `x` of piece `g` is `16 g + x`. -/
theorem lanes0 : ∀ x : S16.Idx, (k0_pay11 x : BitVec 32).toNat = 0 + (x 0).val := by decide +kernel
theorem lanes1 : ∀ x : S16.Idx, (k0_pay12 x : BitVec 32).toNat = 16 + (x 0).val := by decide +kernel
theorem lanes2 : ∀ x : S16.Idx, (k0_pay13 (iota .scVector S16 32 [0] iota_S16_d0_w32_scVector) 32#32 x : BitVec 32).toNat = 32 + (x 0).val := by decide +kernel
theorem lanes3 : ∀ x : S16.Idx, (k0_pay14 (iota .scVector S16 32 [0] iota_S16_d0_w32_scVector) x : BitVec 32).toNat = 48 + (x 0).val := by decide +kernel
theorem lanes4 : ∀ x : S16.Idx, (k0_pay15 (iota .scVector S16 32 [0] iota_S16_d0_w32_scVector) x : BitVec 32).toNat = 64 + (x 0).val := by decide +kernel
theorem lanes5 : ∀ x : S16.Idx, (k0_pay16 (iota .scVector S16 32 [0] iota_S16_d0_w32_scVector) x : BitVec 32).toNat = 80 + (x 0).val := by decide +kernel
theorem lanes6 : ∀ x : S16.Idx, (k0_pay17 (iota .scVector S16 32 [0] iota_S16_d0_w32_scVector) x : BitVec 32).toNat = 96 + (x 0).val := by decide +kernel
theorem lanes7 : ∀ x : S16.Idx, (k0_pay18 (iota .scVector S16 32 [0] iota_S16_d0_w32_scVector) x : BitVec 32).toNat = 112 + (x 0).val := by decide +kernel
theorem lanes8 : ∀ x : S16.Idx, (k0_pay19 (iota .scVector S16 32 [0] iota_S16_d0_w32_scVector) x : BitVec 32).toNat = 128 + (x 0).val := by decide +kernel
theorem lanes9 : ∀ x : S16.Idx, (k0_pay20 (iota .scVector S16 32 [0] iota_S16_d0_w32_scVector) x : BitVec 32).toNat = 144 + (x 0).val := by decide +kernel
theorem lanes10 : ∀ x : S16.Idx, (k0_pay21 (iota .scVector S16 32 [0] iota_S16_d0_w32_scVector) x : BitVec 32).toNat = 160 + (x 0).val := by decide +kernel
theorem lanes11 : ∀ x : S16.Idx, (k0_pay22 (iota .scVector S16 32 [0] iota_S16_d0_w32_scVector) x : BitVec 32).toNat = 176 + (x 0).val := by decide +kernel
theorem lanes12 : ∀ x : S16.Idx, (k0_pay23 (iota .scVector S16 32 [0] iota_S16_d0_w32_scVector) x : BitVec 32).toNat = 192 + (x 0).val := by decide +kernel
theorem lanes13 : ∀ x : S16.Idx, (k0_pay24 (iota .scVector S16 32 [0] iota_S16_d0_w32_scVector) x : BitVec 32).toNat = 208 + (x 0).val := by decide +kernel
theorem lanes14 : ∀ x : S16.Idx, (k0_pay25 (iota .scVector S16 32 [0] iota_S16_d0_w32_scVector) x : BitVec 32).toNat = 224 + (x 0).val := by decide +kernel
theorem lanes15 : ∀ x : S16.Idx, (k0_pay26 (iota .scVector S16 32 [0] iota_S16_d0_w32_scVector) x : BitVec 32).toNat = 240 + (x 0).val := by decide +kernel

/-- A loop's counter from 0 by 1 is the trip number. -/
theorem iv_toNat {n : ℕ} (k : ℕ) (hk : k < n) (hn : n ≤ 4096) : (Scf.iv (0#32) (1#32) k).toNat = k := by
  have e : Scf.iv (0#32) (1#32) k = BitVec.ofNat 32 k := by
    unfold Scf.iv; simp
  rw [e, BitVec.toNat_ofNat]; omega

set_option maxHeartbeats 1000000 in
/-- One trip of `k0_t2_loop`: row `j` of the chunk. -/
theorem row_t2 (hpre : ∀ n, idxN fi n ≤ 128) (v2 : BitVec 32) (k : Fin k0_t2_loop.trips) (j : ℕ) (hj : j < 128) (hkj : k.val = j) :
    iprop(IdxIs d L (idxW fi (wid L)) ∗ TabIs d L (tabW ft (wid L)) ∗ BufTo d L sA (chunkN ft fi (wid L) 0) (256 * j))
      ⊢ wp frame (wpE (defs₀ (F := F)) 𝒱₀ (thr d L) none) Set.univ
        (k0_t2_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1
          v2 (iota .scVector S16 32 [0] iota_S16_d0_w32_scVector) k0_pay11 k0_pay12 32#32 k ())
        fun _ => iprop(IdxIs d L (idxW fi (wid L)) ∗ TabIs d L (tabW ft (wid L)) ∗ BufTo d L sA (chunkN ft fi (wid L) 0) (256 * (j + 1))) := by
  have hw := wid_lt L
  unfold k0_t2_body
  simp only [k0_part2_eq_skeleton, k0_part3_eq_skeleton]
  unfold k0_part2_skel k0_part3_skel SparseCore.vectorLoadIdx
  simp only [Prog.lift, Prog.bind_op, Prog.bind_ret, Prog.pure_eq_ret]
  refine idx_step d L (idxW fi (wid L)) _ (0 * 128 + j) (fun h => h) (fun x => ?_) (by omega) fun h f hf => ?_
  · show ((0#32 : BitVec 32) + Scf.iv 0#32 1#32 k.val).toNat = _
    rw [BitVec.toNat_add, iv_toNat (n := 128) k.val (by omega) (by decide)]; simp; omega
  have hu := hf
  refine (show iprop(IdxIs d L (idxW fi (wid L)) ∗ TabIs d L (tabW ft (wid L)) ∗ BufTo d L sA (chunkN ft fi (wid L) 0) (256 * j))
    ⊢ iprop(TabIs d L (tabW ft (wid L)) ∗ BufTo d L sA (chunkN ft fi (wid L) 0) (256 * j + 0) ∗ IdxIs d L (idxW fi (wid L))) from by
      iintro ⟨HI, HT, HB⟩
      isplitl [HT]; · iexact HT
      isplitl [HB]; · iexact HB
      iexact HI).trans ?_
  refine piece_gather d L ft fi hpre _ (wid L) 0 j 0 (by omega) hj (by decide) (fun h => h) (hu _) lanes0 fun _ _ hf => ?_
  refine store_step d L _ _ _ (256 * j + 0) (by rw [k0_off4_eq, hkj]; rfl) (hf _) ?_
  refine piece_gather d L ft fi hpre _ (wid L) 0 j 16 (by omega) hj (by decide) (fun h => h) (hu _) lanes1 fun _ _ hf => ?_
  refine store_step d L _ _ _ (256 * j + 16) (by rw [k0_off5_eq, hkj]; rfl) (hf _) ?_
  refine piece_gather d L ft fi hpre _ (wid L) 0 j 32 (by omega) hj (by decide) (fun h => h) (hu _) lanes2 fun _ _ hf => ?_
  refine store_step d L _ _ _ (256 * j + 32) (by rw [k0_off6_eq, hkj]; rfl) (hf _) ?_
  refine piece_gather d L ft fi hpre _ (wid L) 0 j 48 (by omega) hj (by decide) (fun h => h) (hu _) lanes3 fun _ _ hf => ?_
  refine store_step d L _ _ _ (256 * j + 48) (by rw [k0_off7_eq, hkj]; rfl) (hf _) ?_
  refine piece_gather d L ft fi hpre _ (wid L) 0 j 64 (by omega) hj (by decide) (fun h => h) (hu _) lanes4 fun _ _ hf => ?_
  refine store_step d L _ _ _ (256 * j + 64) (by rw [k0_off8_eq, hkj]; rfl) (hf _) ?_
  refine piece_gather d L ft fi hpre _ (wid L) 0 j 80 (by omega) hj (by decide) (fun h => h) (hu _) lanes5 fun _ _ hf => ?_
  refine store_step d L _ _ _ (256 * j + 80) (by rw [k0_off9_eq, hkj]; rfl) (hf _) ?_
  refine piece_gather d L ft fi hpre _ (wid L) 0 j 96 (by omega) hj (by decide) (fun h => h) (hu _) lanes6 fun _ _ hf => ?_
  refine store_step d L _ _ _ (256 * j + 96) (by rw [k0_off10_eq, hkj]; rfl) (hf _) ?_
  refine piece_gather d L ft fi hpre _ (wid L) 0 j 112 (by omega) hj (by decide) (fun h => h) (hu _) lanes7 fun _ _ hf => ?_
  refine store_step d L _ _ _ (256 * j + 112) (by rw [k0_off11_eq, hkj]; rfl) (hf _) ?_
  refine piece_gather d L ft fi hpre _ (wid L) 0 j 128 (by omega) hj (by decide) (fun h => h) (hu _) lanes8 fun _ _ hf => ?_
  refine store_step d L _ _ _ (256 * j + 128) (by rw [k0_off12_eq, hkj]; rfl) (hf _) ?_
  refine piece_gather d L ft fi hpre _ (wid L) 0 j 144 (by omega) hj (by decide) (fun h => h) (hu _) lanes9 fun _ _ hf => ?_
  refine store_step d L _ _ _ (256 * j + 144) (by rw [k0_off13_eq, hkj]; rfl) (hf _) ?_
  refine piece_gather d L ft fi hpre _ (wid L) 0 j 160 (by omega) hj (by decide) (fun h => h) (hu _) lanes10 fun _ _ hf => ?_
  refine store_step d L _ _ _ (256 * j + 160) (by rw [k0_off14_eq, hkj]; rfl) (hf _) ?_
  refine piece_gather d L ft fi hpre _ (wid L) 0 j 176 (by omega) hj (by decide) (fun h => h) (hu _) lanes11 fun _ _ hf => ?_
  refine store_step d L _ _ _ (256 * j + 176) (by rw [k0_off15_eq, hkj]; rfl) (hf _) ?_
  refine piece_gather d L ft fi hpre _ (wid L) 0 j 192 (by omega) hj (by decide) (fun h => h) (hu _) lanes12 fun _ _ hf => ?_
  refine store_step d L _ _ _ (256 * j + 192) (by rw [k0_off16_eq, hkj]; rfl) (hf _) ?_
  refine piece_gather d L ft fi hpre _ (wid L) 0 j 208 (by omega) hj (by decide) (fun h => h) (hu _) lanes13 fun _ _ hf => ?_
  refine store_step d L _ _ _ (256 * j + 208) (by rw [k0_off17_eq, hkj]; rfl) (hf _) ?_
  refine piece_gather d L ft fi hpre _ (wid L) 0 j 224 (by omega) hj (by decide) (fun h => h) (hu _) lanes14 fun _ _ hf => ?_
  refine store_step d L _ _ _ (256 * j + 224) (by rw [k0_off18_eq, hkj]; rfl) (hf _) ?_
  refine piece_gather d L ft fi hpre _ (wid L) 0 j 240 (by omega) hj (by decide) (fun h => h) (hu _) lanes15 fun _ _ hf => ?_
  refine store_step d L _ _ _ (256 * j + 240) (by rw [k0_off19_eq, hkj]; rfl) (hf _) ?_
  rw [show 256 * j + 240 + 16 = 256 * (j + 1) by omega]
  iintro ⟨HT, HB, HI⟩
  sl_step
  isplitl [HI]; · iexact HI
  isplitl [HT]; · iexact HT
  iexact HB

set_option maxHeartbeats 1000000 in
/-- One trip of `k0_t4_loop`: row `j` of the chunk. -/
theorem row_t4 (hpre : ∀ n, idxN fi n ≤ 128) (v2 : BitVec 32) (i : ℕ) (hi : i < 32) (v71 : BitVec 32) (h71 : v71.toNat = i * 128) (k : Fin k0_t4_loop.trips) (j : ℕ) (hj : j < 128) (hkj : k.val = j) :
    iprop(IdxIs d L (idxW fi (wid L)) ∗ TabIs d L (tabW ft (wid L)) ∗ BufTo d L sB (chunkN ft fi (wid L) i) (256 * j))
      ⊢ wp frame (wpE (defs₀ (F := F)) 𝒱₀ (thr d L) none) Set.univ
        (k0_t4_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1
          v2 (iota .scVector S16 32 [0] iota_S16_d0_w32_scVector) k0_pay11 k0_pay12 32#32 v71 k ())
        fun _ => iprop(IdxIs d L (idxW fi (wid L)) ∗ TabIs d L (tabW ft (wid L)) ∗ BufTo d L sB (chunkN ft fi (wid L) i) (256 * (j + 1))) := by
  have hw := wid_lt L
  unfold k0_t4_body
  simp only [k0_part4_eq_skeleton, k0_part5_eq_skeleton]
  unfold k0_part4_skel k0_part5_skel SparseCore.vectorLoadIdx
  simp only [Prog.lift, Prog.bind_op, Prog.bind_ret, Prog.pure_eq_ret, k0_pay5]
  refine idx_step d L (idxW fi (wid L)) _ (i * 128 + j) (fun h => h) (fun x => ?_) (by omega) fun h f hf => ?_
  · show (v71 + Scf.iv 0#32 1#32 k.val).toNat = _
    rw [BitVec.toNat_add, iv_toNat (n := 128) k.val (by omega) (by decide), h71]; omega
  have hu := hf
  refine (show iprop(IdxIs d L (idxW fi (wid L)) ∗ TabIs d L (tabW ft (wid L)) ∗ BufTo d L sB (chunkN ft fi (wid L) i) (256 * j))
    ⊢ iprop(TabIs d L (tabW ft (wid L)) ∗ BufTo d L sB (chunkN ft fi (wid L) i) (256 * j + 0) ∗ IdxIs d L (idxW fi (wid L))) from by
      iintro ⟨HI, HT, HB⟩
      isplitl [HT]; · iexact HT
      isplitl [HB]; · iexact HB
      iexact HI).trans ?_
  refine piece_gather d L ft fi hpre _ (wid L) i j 0 (by omega) hj (by decide) (fun h => h) (hu _) lanes0 fun _ _ hf => ?_
  refine store_step d L _ _ _ (256 * j + 0) (by rw [k0_off22_eq, hkj]; rfl) (hf _) ?_
  refine piece_gather d L ft fi hpre _ (wid L) i j 16 (by omega) hj (by decide) (fun h => h) (hu _) lanes1 fun _ _ hf => ?_
  refine store_step d L _ _ _ (256 * j + 16) (by rw [k0_off23_eq, hkj]; rfl) (hf _) ?_
  refine piece_gather d L ft fi hpre _ (wid L) i j 32 (by omega) hj (by decide) (fun h => h) (hu _) lanes2 fun _ _ hf => ?_
  refine store_step d L _ _ _ (256 * j + 32) (by rw [k0_off24_eq, hkj]; rfl) (hf _) ?_
  refine piece_gather d L ft fi hpre _ (wid L) i j 48 (by omega) hj (by decide) (fun h => h) (hu _) lanes3 fun _ _ hf => ?_
  refine store_step d L _ _ _ (256 * j + 48) (by rw [k0_off25_eq, hkj]; rfl) (hf _) ?_
  refine piece_gather d L ft fi hpre _ (wid L) i j 64 (by omega) hj (by decide) (fun h => h) (hu _) lanes4 fun _ _ hf => ?_
  refine store_step d L _ _ _ (256 * j + 64) (by rw [k0_off26_eq, hkj]; rfl) (hf _) ?_
  refine piece_gather d L ft fi hpre _ (wid L) i j 80 (by omega) hj (by decide) (fun h => h) (hu _) lanes5 fun _ _ hf => ?_
  refine store_step d L _ _ _ (256 * j + 80) (by rw [k0_off27_eq, hkj]; rfl) (hf _) ?_
  refine piece_gather d L ft fi hpre _ (wid L) i j 96 (by omega) hj (by decide) (fun h => h) (hu _) lanes6 fun _ _ hf => ?_
  refine store_step d L _ _ _ (256 * j + 96) (by rw [k0_off28_eq, hkj]; rfl) (hf _) ?_
  refine piece_gather d L ft fi hpre _ (wid L) i j 112 (by omega) hj (by decide) (fun h => h) (hu _) lanes7 fun _ _ hf => ?_
  refine store_step d L _ _ _ (256 * j + 112) (by rw [k0_off29_eq, hkj]; rfl) (hf _) ?_
  refine piece_gather d L ft fi hpre _ (wid L) i j 128 (by omega) hj (by decide) (fun h => h) (hu _) lanes8 fun _ _ hf => ?_
  refine store_step d L _ _ _ (256 * j + 128) (by rw [k0_off30_eq, hkj]; rfl) (hf _) ?_
  refine piece_gather d L ft fi hpre _ (wid L) i j 144 (by omega) hj (by decide) (fun h => h) (hu _) lanes9 fun _ _ hf => ?_
  refine store_step d L _ _ _ (256 * j + 144) (by rw [k0_off31_eq, hkj]; rfl) (hf _) ?_
  refine piece_gather d L ft fi hpre _ (wid L) i j 160 (by omega) hj (by decide) (fun h => h) (hu _) lanes10 fun _ _ hf => ?_
  refine store_step d L _ _ _ (256 * j + 160) (by rw [k0_off32_eq, hkj]; rfl) (hf _) ?_
  refine piece_gather d L ft fi hpre _ (wid L) i j 176 (by omega) hj (by decide) (fun h => h) (hu _) lanes11 fun _ _ hf => ?_
  refine store_step d L _ _ _ (256 * j + 176) (by rw [k0_off33_eq, hkj]; rfl) (hf _) ?_
  refine piece_gather d L ft fi hpre _ (wid L) i j 192 (by omega) hj (by decide) (fun h => h) (hu _) lanes12 fun _ _ hf => ?_
  refine store_step d L _ _ _ (256 * j + 192) (by rw [k0_off34_eq, hkj]; rfl) (hf _) ?_
  refine piece_gather d L ft fi hpre _ (wid L) i j 208 (by omega) hj (by decide) (fun h => h) (hu _) lanes13 fun _ _ hf => ?_
  refine store_step d L _ _ _ (256 * j + 208) (by rw [k0_off35_eq, hkj]; rfl) (hf _) ?_
  refine piece_gather d L ft fi hpre _ (wid L) i j 224 (by omega) hj (by decide) (fun h => h) (hu _) lanes14 fun _ _ hf => ?_
  refine store_step d L _ _ _ (256 * j + 224) (by rw [k0_off36_eq, hkj]; rfl) (hf _) ?_
  refine piece_gather d L ft fi hpre _ (wid L) i j 240 (by omega) hj (by decide) (fun h => h) (hu _) lanes15 fun _ _ hf => ?_
  refine store_step d L _ _ _ (256 * j + 240) (by rw [k0_off37_eq, hkj]; rfl) (hf _) ?_
  rw [show 256 * j + 240 + 16 = 256 * (j + 1) by omega]
  iintro ⟨HT, HB, HI⟩
  sl_step
  isplitl [HI]; · iexact HI
  isplitl [HT]; · iexact HT
  iexact HB

set_option maxHeartbeats 1000000 in
/-- One trip of `k0_t5_loop`: row `j` of the chunk. -/
theorem row_t5 (hpre : ∀ n, idxN fi n ≤ 128) (v2 : BitVec 32) (i : ℕ) (hi : i < 32) (k3 : Fin k0_t3_loop.trips) (h2 : k0_cond2 k3 = 1#1) (v88 : BitVec 32) (h88 : v88.toNat = i * 128) (k : Fin k0_t5_loop.trips) (j : ℕ) (hj : j < 128) (hkj : k.val = j) :
    iprop(IdxIs d L (idxW fi (wid L)) ∗ TabIs d L (tabW ft (wid L)) ∗ BufTo d L sA (chunkN ft fi (wid L) i) (256 * j))
      ⊢ wp frame (wpE (defs₀ (F := F)) 𝒱₀ (thr d L) none) Set.univ
        (k0_t5_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1
          v2 (iota .scVector S16 32 [0] iota_S16_d0_w32_scVector) k0_pay11 k0_pay12 32#32 k3 h2 v88 k ())
        fun _ => iprop(IdxIs d L (idxW fi (wid L)) ∗ TabIs d L (tabW ft (wid L)) ∗ BufTo d L sA (chunkN ft fi (wid L) i) (256 * (j + 1))) := by
  have hw := wid_lt L
  unfold k0_t5_body
  simp only [k0_part6_eq_skeleton, k0_part7_eq_skeleton]
  unfold k0_part6_skel k0_part7_skel SparseCore.vectorLoadIdx
  simp only [Prog.lift, Prog.bind_op, Prog.bind_ret, Prog.pure_eq_ret, k0_pay6]
  refine idx_step d L (idxW fi (wid L)) _ (i * 128 + j) (fun h _ => h) (fun x => ?_) (by omega) fun h f hf => ?_
  · show (v88 + Scf.iv 0#32 1#32 k.val).toNat = _
    rw [BitVec.toNat_add, iv_toNat (n := 128) k.val (by omega) (by decide), h88]; omega
  have hu := hf
  refine (show iprop(IdxIs d L (idxW fi (wid L)) ∗ TabIs d L (tabW ft (wid L)) ∗ BufTo d L sA (chunkN ft fi (wid L) i) (256 * j))
    ⊢ iprop(TabIs d L (tabW ft (wid L)) ∗ BufTo d L sA (chunkN ft fi (wid L) i) (256 * j + 0) ∗ IdxIs d L (idxW fi (wid L))) from by
      iintro ⟨HI, HT, HB⟩
      isplitl [HT]; · iexact HT
      isplitl [HB]; · iexact HB
      iexact HI).trans ?_
  refine piece_gather d L ft fi hpre _ (wid L) i j 0 (by omega) hj (by decide) (fun h _ => h) (hu _) lanes0 fun _ _ hf => ?_
  refine store_step d L _ _ _ (256 * j + 0) (by rw [k0_off39_eq, hkj]; rfl) (hf _) ?_
  refine piece_gather d L ft fi hpre _ (wid L) i j 16 (by omega) hj (by decide) (fun h _ => h) (hu _) lanes1 fun _ _ hf => ?_
  refine store_step d L _ _ _ (256 * j + 16) (by rw [k0_off40_eq, hkj]; rfl) (hf _) ?_
  refine piece_gather d L ft fi hpre _ (wid L) i j 32 (by omega) hj (by decide) (fun h _ => h) (hu _) lanes2 fun _ _ hf => ?_
  refine store_step d L _ _ _ (256 * j + 32) (by rw [k0_off41_eq, hkj]; rfl) (hf _) ?_
  refine piece_gather d L ft fi hpre _ (wid L) i j 48 (by omega) hj (by decide) (fun h _ => h) (hu _) lanes3 fun _ _ hf => ?_
  refine store_step d L _ _ _ (256 * j + 48) (by rw [k0_off42_eq, hkj]; rfl) (hf _) ?_
  refine piece_gather d L ft fi hpre _ (wid L) i j 64 (by omega) hj (by decide) (fun h _ => h) (hu _) lanes4 fun _ _ hf => ?_
  refine store_step d L _ _ _ (256 * j + 64) (by rw [k0_off43_eq, hkj]; rfl) (hf _) ?_
  refine piece_gather d L ft fi hpre _ (wid L) i j 80 (by omega) hj (by decide) (fun h _ => h) (hu _) lanes5 fun _ _ hf => ?_
  refine store_step d L _ _ _ (256 * j + 80) (by rw [k0_off44_eq, hkj]; rfl) (hf _) ?_
  refine piece_gather d L ft fi hpre _ (wid L) i j 96 (by omega) hj (by decide) (fun h _ => h) (hu _) lanes6 fun _ _ hf => ?_
  refine store_step d L _ _ _ (256 * j + 96) (by rw [k0_off45_eq, hkj]; rfl) (hf _) ?_
  refine piece_gather d L ft fi hpre _ (wid L) i j 112 (by omega) hj (by decide) (fun h _ => h) (hu _) lanes7 fun _ _ hf => ?_
  refine store_step d L _ _ _ (256 * j + 112) (by rw [k0_off46_eq, hkj]; rfl) (hf _) ?_
  refine piece_gather d L ft fi hpre _ (wid L) i j 128 (by omega) hj (by decide) (fun h _ => h) (hu _) lanes8 fun _ _ hf => ?_
  refine store_step d L _ _ _ (256 * j + 128) (by rw [k0_off47_eq, hkj]; rfl) (hf _) ?_
  refine piece_gather d L ft fi hpre _ (wid L) i j 144 (by omega) hj (by decide) (fun h _ => h) (hu _) lanes9 fun _ _ hf => ?_
  refine store_step d L _ _ _ (256 * j + 144) (by rw [k0_off48_eq, hkj]; rfl) (hf _) ?_
  refine piece_gather d L ft fi hpre _ (wid L) i j 160 (by omega) hj (by decide) (fun h _ => h) (hu _) lanes10 fun _ _ hf => ?_
  refine store_step d L _ _ _ (256 * j + 160) (by rw [k0_off49_eq, hkj]; rfl) (hf _) ?_
  refine piece_gather d L ft fi hpre _ (wid L) i j 176 (by omega) hj (by decide) (fun h _ => h) (hu _) lanes11 fun _ _ hf => ?_
  refine store_step d L _ _ _ (256 * j + 176) (by rw [k0_off50_eq, hkj]; rfl) (hf _) ?_
  refine piece_gather d L ft fi hpre _ (wid L) i j 192 (by omega) hj (by decide) (fun h _ => h) (hu _) lanes12 fun _ _ hf => ?_
  refine store_step d L _ _ _ (256 * j + 192) (by rw [k0_off51_eq, hkj]; rfl) (hf _) ?_
  refine piece_gather d L ft fi hpre _ (wid L) i j 208 (by omega) hj (by decide) (fun h _ => h) (hu _) lanes13 fun _ _ hf => ?_
  refine store_step d L _ _ _ (256 * j + 208) (by rw [k0_off52_eq, hkj]; rfl) (hf _) ?_
  refine piece_gather d L ft fi hpre _ (wid L) i j 224 (by omega) hj (by decide) (fun h _ => h) (hu _) lanes14 fun _ _ hf => ?_
  refine store_step d L _ _ _ (256 * j + 224) (by rw [k0_off53_eq, hkj]; rfl) (hf _) ?_
  refine piece_gather d L ft fi hpre _ (wid L) i j 240 (by omega) hj (by decide) (fun h _ => h) (hu _) lanes15 fun _ _ hf => ?_
  refine store_step d L _ _ _ (256 * j + 240) (by rw [k0_off54_eq, hkj]; rfl) (hf _) ?_
  rw [show 256 * j + 240 + 16 = 256 * (j + 1) by omega]
  iintro ⟨HT, HB, HI⟩
  sl_step
  isplitl [HI]; · iexact HI
  isplitl [HT]; · iexact HT
  iexact HB

end Piece

end Cert.Proof.Gather

end
-- ==== Proof.Loops.lean ====
/-
  The counted loops of a task that move no data outside its tile memory: the scaling of the indices (`scale_t1`) and the building
  of one chunk, row by row (`build_t2`, `build_t4`, `build_t5`).
-/
module

public import proofs.«01_k».proof.Proof.Row

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aI" => (Memref.whole Cert.KernelIdeal.main_v4_scv : Memref Cert.KernelIdeal.sig Kind.scVector Space.hbm Cert.KernelIdeal.S131072 EltTy.i32)
local notation "aT" => (Memref.whole Cert.KernelIdeal.main_v3_scv : Memref Cert.KernelIdeal.sig Kind.scVector Space.hbm Cert.KernelIdeal.S278528 EltTy.f32)
local notation "aO" => (Memref.whole Cert.KernelIdeal.main_v5_scv : Memref Cert.KernelIdeal.sig Kind.scVector Space.hbm Cert.KernelIdeal.S33554432 EltTy.f32)
local notation "sI" => (Memref.whole Cert.KernelIdeal.cc0_scratch0 : Memref Cert.KernelIdeal.sig Kind.scVector Space.vmem Cert.KernelIdeal.S4096 EltTy.i32)
local notation "sT" => (Memref.whole Cert.KernelIdeal.cc0_scratch1 : Memref Cert.KernelIdeal.sig Kind.scVector Space.vmem Cert.KernelIdeal.S34816 EltTy.f32)
local notation "sA" => (Memref.whole Cert.KernelIdeal.cc0_scratch2 : Memref Cert.KernelIdeal.sig Kind.scVector Space.vmem Cert.KernelIdeal.S32768 EltTy.f32)
local notation "sB" => (Memref.whole Cert.KernelIdeal.cc0_scratch3 : Memref Cert.KernelIdeal.sig Kind.scVector Space.vmem Cert.KernelIdeal.S32768 EltTy.f32)

variable (d : Dev nD) (L : grid0.Coords)

/-- The index scratch: words below `n` scaled by the row length, the rest as fetched. -/
def ScaledTo (r : ℕ → ℕ) (n : ℕ) : sProp 𝕄 :=
  iprop(∃ f, ⌜∀ y : S4096.Idx, ((sI).view.read (Elt F) f y : BitVec 32).toNat = if (y 0).val < n then 256 * r (y 0).val else r (y 0).val⌝
    ∗ (sI).view.loc (thr d L) ↦{fullShare} f)

/-- Scaling sixteen words at offset `n`. -/
theorem read_scale_lanes (M : Memref sig .scVector .vmem S4096 .i32) (r : ℕ → ℕ) (hr : ∀ p, r p ≤ 128) {n : ℕ} {off : Fin 1 → ℕ}
    (hin : ∀ a, off a + S16.size a ≤ S4096.size a) (hoff : off 0 = n) (f : M.view.ty.Contents (Elt F))
    (hf : ∀ y : S4096.Idx, (M.view.read (Elt F) f y : BitVec 32).toNat = if (y 0).val < n then 256 * r (y 0).val else r (y 0).val)
    (w : S16.Idx → Elt F .i32)
    (hw : ∀ x : S16.Idx, w x = (show BitVec 32 from M.view.readAt (Elt F) (Rect.unit (s := S4096) off S16.size hin).toLoadRect f x) * 256#32) :
    ∀ y : S4096.Idx, (M.view.read (Elt F)
      ((M.access (Rect.unit (s := S4096) off S16.size hin)).write (Elt F) f w Finset.univ) y : BitVec 32).toNat
        = if (y 0).val < n + 16 then 256 * r (y 0).val else r (y 0).val := by
  intro y
  have key := View.read_writes_cons_unit M.view f hin w [] y (rfl : off = off)
  refine (congrArg BitVec.toNat key).trans ?_
  by_cases h : ∀ a, off a ≤ (y a).val ∧ (y a).val < off a + S16.size a
  · have h0 := h 0
    have h1 : (y 0).val < off 0 + 16 := h0.2
    rw [dif_pos h, hw, if_pos (by omega)]
    have e : (Rect.unit (s := S4096) off S16.size hin).toLoadRect.idx (Rect.unitLocal (s := S4096) (off := off) (size := S16.size) y h) = y := by
      funext a; apply Fin.ext
      show off a + 1 * ((y a).val - off a) = (y a).val
      have := (h a).1
      omega
    rw [View.readAt_apply, e, BitVec.toNat_mul, hf, if_neg (by omega)]
    have := hr (y 0).val
    show (r (y 0).val * 256) % 2 ^ 32 = _
    omega
  · have hc : ¬(n ≤ (y 0).val ∧ (y 0).val < n + 16) := fun hc => h fun a => by
      have ha : a = 0 := Subsingleton.elim _ _
      subst ha
      exact ⟨by omega, by show (y 0).val < off 0 + 16; omega⟩
    rw [dif_neg h]
    refine (hf y).trans ?_
    by_cases h' : (y 0).val < n
    · rw [if_pos h', if_pos (by omega)]
    · rw [if_neg h', if_neg (by omega)]

/-- One sixteen-word piece of the scaling: the load, the dead load, the store of the scaled words. -/
theorem scale_step {off : Fin 1 → ℕ} {hin : ∀ a, off a + S16.size a ≤ S4096.size a} {pay : (S16.Idx → Elt F .i32) → S16.Idx → Elt F .i32}
    {hl hl2 hs hb} {α : Type}
    {k : PUnit → Prog (TpuEff nD τ sig (Elt F) Λ₀ (.scVector ((L 0).castLE hcore0) ((L 1).castLE hsub0))) α} {Q : α → sProp 𝕄}
    (r : ℕ → ℕ) (hr : ∀ p, r p ≤ 128) (n : ℕ) (hoff : off = ![n]) (hpay : ∀ v x, pay v x = (show BitVec 32 from v x) * 256#32)
    (hk : ScaledTo d L r (n + 16) ⊢ wp frame (wpE (defs₀ (F := F)) 𝒱₀ (thr d L) none) Set.univ (k ⟨⟩) Q) :
    ScaledTo d L r n ⊢ wp frame (wpE (defs₀ (F := F)) 𝒱₀ (thr d L) none) Set.univ
      (.op (.load sI (Rect.unit (s := S4096) off S16.size hin).toLoadRect hl) fun v =>
        .op (.load sI (Rect.unit (s := S4096) off S16.size hin).toLoadRect hl2) fun _ =>
        .op (.store sI (Rect.unit (s := S4096) off S16.size hin) (pay v) Finset.univ hs hb) k) Q := by
  unfold ScaledTo at *
  iintro ⟨%f, %hf, Hb⟩
  iapply (wp_load 𝒱₀ (thr d L) none Set.univ (m := sI) (S := Finset.univ) (Finset.subset_univ _)) $$ Hb
  iintro Hb
  iapply (wp_load 𝒱₀ (thr d L) none Set.univ (m := sI) (S := Finset.univ) (Finset.subset_univ _)) $$ Hb
  iintro Hb
  iapply (wp_store 𝒱₀ (thr d L) none Set.univ (m := sI) (r := Rect.unit (s := S4096) off S16.size hin) (Mk := Finset.univ)
    (f := f) (S := Finset.univ) (Finset.subset_univ _)) $$ Hb
  iintro Hb
  iapply hk
  iexists _
  isplitr
  swap; · iexact Hb
  ipureintro
  exact read_scale_lanes sI r hr hin (by rw [hoff]; rfl) f hf _ fun x => hpay _ x

/-- One trip of the scaling loop: eight pieces. -/
theorem trip_t1 (r : ℕ → ℕ) (hr : ∀ p, r p ≤ 128) (k : Fin k0_t1_loop.trips) :
    ScaledTo d L r (128 * k.val)
      ⊢ wp frame (wpE (defs₀ (F := F)) 𝒱₀ (thr d L) none) Set.univ
        (k0_t1_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1 k ())
        fun _ => ScaledTo d L r (128 * (k.val + 1)) := by
  unfold k0_t1_body
  simp only [k0_part1_eq_skeleton]
  unfold k0_part1_skel
  simp only [Prog.lift, Prog.bind_op, Prog.bind_ret, Prog.pure_eq_ret]
  refine scale_step d L r hr (128 * k.val + 0) (k0_off3_eq k 0) (fun _ _ => rfl) ?_
  refine scale_step d L r hr (128 * k.val + 16) (k0_off3_eq k 1) (fun _ _ => rfl) ?_
  refine scale_step d L r hr (128 * k.val + 32) (k0_off3_eq k 2) (fun _ _ => rfl) ?_
  refine scale_step d L r hr (128 * k.val + 48) (k0_off3_eq k 3) (fun _ _ => rfl) ?_
  refine scale_step d L r hr (128 * k.val + 64) (k0_off3_eq k 4) (fun _ _ => rfl) ?_
  refine scale_step d L r hr (128 * k.val + 80) (k0_off3_eq k 5) (fun _ _ => rfl) ?_
  refine scale_step d L r hr (128 * k.val + 96) (k0_off3_eq k 6) (fun _ _ => rfl) ?_
  refine scale_step d L r hr (128 * k.val + 112) (k0_off3_eq k 7) (fun _ _ => rfl) ?_
  rw [show 128 * k.val + 112 + 16 = 128 * (k.val + 1) by omega]
  iintro H
  sl_step
  iexact H

theorem trips_t1 : k0_t1_loop.trips = 32 := by decide +kernel
theorem trips_t2 : k0_t2_loop.trips = 128 := by decide +kernel
theorem trips_t3 : k0_t3_loop.trips = 16 := by decide +kernel
theorem trips_t4 : k0_t4_loop.trips = 128 := by decide +kernel
theorem trips_t5 : k0_t5_loop.trips = 128 := by decide +kernel

/-- The scaling loop at the head of a program: the indices as fetched become the indices scaled. -/
theorem scale_t1 (r : ℕ → ℕ) (hr : ∀ p, r p ≤ 128) {β : Type}
    {kk : Unit → Prog (TpuEff nD τ sig (Elt F) Λ₀ (.scVector ((L 0).castLE hcore0) ((L 1).castLE hsub0))) β} {Q : β → sProp 𝕄} :
    IdxIs d L r ⊢ iprop((IdxIs d L (fun p => 256 * r p) -∗ wp frame (wpE (defs₀ (F := F)) 𝒱₀ (thr d L) none) Set.univ (kk ()) Q)
      -∗ wp frame (wpE (defs₀ (F := F)) 𝒱₀ (thr d L) none) Set.univ
        (Scf.Loop.for k0_t1_loop k0_t1_ok ⟨⟩ (k0_t1_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1) >>= kk) Q) := by
  have hin : IdxIs d L r ⊢ (ScaledTo d L r (128 * 0) : sProp 𝕄) := by
    unfold IdxIs ScaledTo
    iintro ⟨%f, %hf, H⟩
    iexists f
    isplitr
    · ipureintro
      intro y
      rw [hf, if_neg (by omega)]
    iexact H
  have hout : ScaledTo d L r (128 * k0_t1_loop.trips) ⊢ (IdxIs d L (fun p => 256 * r p) : sProp 𝕄) := by
    unfold IdxIs ScaledTo
    rw [trips_t1]
    iintro ⟨%f, %hf, H⟩
    iexists f
    isplitr
    · ipureintro
      intro y
      have hy : (y 0).val < 4096 := (y 0).isLt
      rw [hf, if_pos (by omega)]
    iexact H
  iintro HI HK
  ihave HI := hin $$ HI
  iapply (Scf.wp_for_bind frame (wpE (defs₀ (F := F)) 𝒱₀ (thr d L) none) Set.univ _ _ _ k0_t1_ok ⟨⟩ _
    (fun n _ => ScaledTo d L r (128 * n)) (fun k _ => trip_t1 d L r hr k)) $$ HI
  iintro %u HI
  iapply HK
  iapply hout
  iexact HI

section Build

variable (ft : S278528.Idx → Elt F .f32) (fi : S131072.Idx → Elt F .i32)

/-- A chunk buffer at whatever contents. -/
def BufAny (B : Memref sig .scVector .vmem S32768 .f32) : sProp 𝕄 := iprop(∃ f, B.view.loc (thr d L) ↦{fullShare} f)

/-- A chunk buffer holding chunk `i` of worker `w`. -/
abbrev BufIs (B : Memref sig .scVector .vmem S32768 .f32) (w i : ℕ) : sProp 𝕄 := BufTo d L B (chunkN ft fi w i) 32768

theorem bufAny_to (B : Memref sig .scVector .vmem S32768 .f32) (g : ℕ → Elt F .f32) :
    BufAny d L B ⊢ (BufTo d L B g (256 * 0) : sProp 𝕄) := by
  unfold BufAny BufTo
  iintro ⟨%f, H⟩
  iexists f
  isplitr
  · ipureintro
    intro y hy
    omega
  iexact H

/-- The loop `t2` at the head of a program: chunk `0` built in its buffer. -/
theorem build_t2 (hpre : ∀ n, idxN fi n ≤ 128) (v2 : BitVec 32) {β : Type}
    {kk : Unit → Prog (TpuEff nD τ sig (Elt F) Λ₀ (.scVector ((L 0).castLE hcore0) ((L 1).castLE hsub0))) β} {Q : β → sProp 𝕄} :
    iprop(IdxIs d L (idxW fi (wid L)) ∗ TabIs d L (tabW ft (wid L)) ∗ BufAny d L sA)
      ⊢ iprop((iprop(IdxIs d L (idxW fi (wid L)) ∗ TabIs d L (tabW ft (wid L)) ∗ BufIs d L ft fi sA (wid L) 0)
          -∗ wp frame (wpE (defs₀ (F := F)) 𝒱₀ (thr d L) none) Set.univ (kk ()) Q)
      -∗ wp frame (wpE (defs₀ (F := F)) 𝒱₀ (thr d L) none) Set.univ
        (Scf.Loop.for k0_t2_loop k0_t2_ok ⟨⟩ (k0_t2_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1
          v2 (iota .scVector S16 32 [0] iota_S16_d0_w32_scVector) k0_pay11 k0_pay12 32#32) >>= kk) Q) := by
  iintro ⟨HI, HT, HB⟩ HK
  ihave HB := (bufAny_to d L sA (chunkN ft fi (wid L) 0)) $$ HB
  iapply (Scf.wp_for_bind frame (wpE (defs₀ (F := F)) 𝒱₀ (thr d L) none) Set.univ _ _ _ k0_t2_ok ⟨⟩ _
    (fun n _ => iprop(IdxIs d L (idxW fi (wid L)) ∗ TabIs d L (tabW ft (wid L)) ∗ BufTo d L sA (chunkN ft fi (wid L) 0) (256 * n)))
    (fun k _ => row_t2 d L ft fi hpre v2 k k.val (lt_of_lt_of_eq k.isLt trips_t2) rfl)) $$ [HI HT HB]
  · isplitl [HI]; · iexact HI
    isplitl [HT]; · iexact HT
    iexact HB
  iintro %u ⟨HI, HT, HB⟩
  iapply HK
  isplitl [HI]; · iexact HI
  isplitl [HT]; · iexact HT
  iapply (Entails.of_eq (show BufTo d L sA (chunkN ft fi (wid L) 0) (256 * k0_t2_loop.trips) = (BufIs d L ft fi sA (wid L) 0 : sProp 𝕄) by
    rw [trips_t2]))
  iexact HB

/-- The loop `t4` at the head of a program: chunk `i` built in its buffer. -/
theorem build_t4 (hpre : ∀ n, idxN fi n ≤ 128) (v2 : BitVec 32) (i : ℕ) (hi : i < 32) (v71 : BitVec 32) (h71 : v71.toNat = i * 128) {β : Type}
    {kk : Unit → Prog (TpuEff nD τ sig (Elt F) Λ₀ (.scVector ((L 0).castLE hcore0) ((L 1).castLE hsub0))) β} {Q : β → sProp 𝕄} :
    iprop(IdxIs d L (idxW fi (wid L)) ∗ TabIs d L (tabW ft (wid L)) ∗ BufAny d L sB)
      ⊢ iprop((iprop(IdxIs d L (idxW fi (wid L)) ∗ TabIs d L (tabW ft (wid L)) ∗ BufIs d L ft fi sB (wid L) i)
          -∗ wp frame (wpE (defs₀ (F := F)) 𝒱₀ (thr d L) none) Set.univ (kk ()) Q)
      -∗ wp frame (wpE (defs₀ (F := F)) 𝒱₀ (thr d L) none) Set.univ
        (Scf.Loop.for k0_t4_loop k0_t4_ok ⟨⟩ (k0_t4_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1
          v2 (iota .scVector S16 32 [0] iota_S16_d0_w32_scVector) k0_pay11 k0_pay12 32#32 v71) >>= kk) Q) := by
  iintro ⟨HI, HT, HB⟩ HK
  ihave HB := (bufAny_to d L sB (chunkN ft fi (wid L) i)) $$ HB
  iapply (Scf.wp_for_bind frame (wpE (defs₀ (F := F)) 𝒱₀ (thr d L) none) Set.univ _ _ _ k0_t4_ok ⟨⟩ _
    (fun n _ => iprop(IdxIs d L (idxW fi (wid L)) ∗ TabIs d L (tabW ft (wid L)) ∗ BufTo d L sB (chunkN ft fi (wid L) i) (256 * n)))
    (fun k _ => row_t4 d L ft fi hpre v2 i hi v71 h71 k k.val (lt_of_lt_of_eq k.isLt trips_t4) rfl)) $$ [HI HT HB]
  · isplitl [HI]; · iexact HI
    isplitl [HT]; · iexact HT
    iexact HB
  iintro %u ⟨HI, HT, HB⟩
  iapply HK
  isplitl [HI]; · iexact HI
  isplitl [HT]; · iexact HT
  iapply (Entails.of_eq (show BufTo d L sB (chunkN ft fi (wid L) i) (256 * k0_t4_loop.trips) = (BufIs d L ft fi sB (wid L) i : sProp 𝕄) by
    rw [trips_t4]))
  iexact HB

/-- The loop `t5` at the head of a program: chunk `i` built in its buffer. -/
theorem build_t5 (hpre : ∀ n, idxN fi n ≤ 128) (v2 : BitVec 32) (i : ℕ) (hi : i < 32) (k3 : Fin k0_t3_loop.trips) (h2 : k0_cond2 k3 = 1#1) (v88 : BitVec 32) (h88 : v88.toNat = i * 128) {β : Type}
    {kk : Unit → Prog (TpuEff nD τ sig (Elt F) Λ₀ (.scVector ((L 0).castLE hcore0) ((L 1).castLE hsub0))) β} {Q : β → sProp 𝕄} :
    iprop(IdxIs d L (idxW fi (wid L)) ∗ TabIs d L (tabW ft (wid L)) ∗ BufAny d L sA)
      ⊢ iprop((iprop(IdxIs d L (idxW fi (wid L)) ∗ TabIs d L (tabW ft (wid L)) ∗ BufIs d L ft fi sA (wid L) i)
          -∗ wp frame (wpE (defs₀ (F := F)) 𝒱₀ (thr d L) none) Set.univ (kk ()) Q)
      -∗ wp frame (wpE (defs₀ (F := F)) 𝒱₀ (thr d L) none) Set.univ
        (Scf.Loop.for k0_t5_loop (k0_t5_ok k3 h2) ⟨⟩ (k0_t5_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1
          v2 (iota .scVector S16 32 [0] iota_S16_d0_w32_scVector) k0_pay11 k0_pay12 32#32 k3 h2 v88) >>= kk) Q) := by
  iintro ⟨HI, HT, HB⟩ HK
  ihave HB := (bufAny_to d L sA (chunkN ft fi (wid L) i)) $$ HB
  iapply (Scf.wp_for_bind frame (wpE (defs₀ (F := F)) 𝒱₀ (thr d L) none) Set.univ _ _ _ (k0_t5_ok k3 h2) ⟨⟩ _
    (fun n _ => iprop(IdxIs d L (idxW fi (wid L)) ∗ TabIs d L (tabW ft (wid L)) ∗ BufTo d L sA (chunkN ft fi (wid L) i) (256 * n)))
    (fun k _ => row_t5 d L ft fi hpre v2 i hi k3 h2 v88 h88 k k.val (lt_of_lt_of_eq k.isLt trips_t5) rfl)) $$ [HI HT HB]
  · isplitl [HI]; · iexact HI
    isplitl [HT]; · iexact HT
    iexact HB
  iintro %u ⟨HI, HT, HB⟩
  iapply HK
  isplitl [HI]; · iexact HI
  isplitl [HT]; · iexact HT
  iapply (Entails.of_eq (show BufTo d L sA (chunkN ft fi (wid L) i) (256 * k0_t5_loop.trips) = (BufIs d L ft fi sA (wid L) i : sProp 𝕄) by
    rw [trips_t5]))
  iexact HB

end Build

end Cert.Proof.Gather

end
-- ==== Proof.Copies.lean ====
/-
  The copies of a task: the two fetches (`fetch_idx`, `fetch_tab`), the issue of a finished chunk's store (`start_store`) and the wait
  that takes its buffer back and its piece of the result (`wait_store`). A piece of the result is a range of its words (`rangeSet`).
-/
module

public import proofs.«01_k».proof.Proof.Loops

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aI" => (Memref.whole Cert.KernelIdeal.main_v4_scv : Memref Cert.KernelIdeal.sig Kind.scVector Space.hbm Cert.KernelIdeal.S131072 EltTy.i32)
local notation "aT" => (Memref.whole Cert.KernelIdeal.main_v3_scv : Memref Cert.KernelIdeal.sig Kind.scVector Space.hbm Cert.KernelIdeal.S278528 EltTy.f32)
local notation "aO" => (Memref.whole Cert.KernelIdeal.main_v5_scv : Memref Cert.KernelIdeal.sig Kind.scVector Space.hbm Cert.KernelIdeal.S33554432 EltTy.f32)
local notation "sI" => (Memref.whole Cert.KernelIdeal.cc0_scratch0 : Memref Cert.KernelIdeal.sig Kind.scVector Space.vmem Cert.KernelIdeal.S4096 EltTy.i32)
local notation "sT" => (Memref.whole Cert.KernelIdeal.cc0_scratch1 : Memref Cert.KernelIdeal.sig Kind.scVector Space.vmem Cert.KernelIdeal.S34816 EltTy.f32)
local notation "sA" => (Memref.whole Cert.KernelIdeal.cc0_scratch2 : Memref Cert.KernelIdeal.sig Kind.scVector Space.vmem Cert.KernelIdeal.S32768 EltTy.f32)
local notation "sB" => (Memref.whole Cert.KernelIdeal.cc0_scratch3 : Memref Cert.KernelIdeal.sig Kind.scVector Space.vmem Cert.KernelIdeal.S32768 EltTy.f32)

variable (d : Dev nD) (L : grid0.Coords)

/-! ## Ranges of the result -/

/-- The words `a ≤ · < b` of the result. -/
@[irreducible] def rangeSet (a b : ℕ) : Finset S33554432.Idx := Finset.univ.filter fun y => a ≤ (y 0).val ∧ (y 0).val < b

omit d L in
theorem mem_rangeSet {a b : ℕ} {y : S33554432.Idx} : y ∈ rangeSet a b ↔ a ≤ (y 0).val ∧ (y 0).val < b := by
  unfold rangeSet
  simp only [Finset.mem_filter, Finset.mem_univ, true_and]

omit d L in
theorem rangeSet_union {a b c : ℕ} (h1 : a ≤ b) (h2 : b ≤ c) : rangeSet a b ∪ rangeSet b c = rangeSet a c := by
  ext y
  simp only [Finset.mem_union, mem_rangeSet]
  omega

omit d L in
theorem rangeSet_disj {a b a' b' : ℕ} (h : b ≤ a') : Disjoint (rangeSet a b) (rangeSet a' b') := by
  rw [Finset.disjoint_left]
  intro y h1 h2
  rw [mem_rangeSet] at h1 h2
  omega

omit d L in
theorem rangeSet_nil (a : ℕ) : rangeSet a a = ∅ := by
  ext y
  rw [mem_rangeSet]
  simp only [Finset.notMem_empty, iff_false]
  omega

/-- The result's words of a range, at contents `f`. -/
def outPts (f : S33554432.Idx → Elt F .f32) (a b : ℕ) : sProp 𝕄 := (aO).view.loc (thr d L) ↦[rangeSet a b]{fullShare} f

theorem outPts_join (f : S33554432.Idx → Elt F .f32) {a b c : ℕ} (h1 : a ≤ b) (h2 : b ≤ c) :
    (outPts d L f a c : sProp 𝕄) ⊣⊢ iprop(outPts d L f a b ∗ outPts d L f b c) := by
  unfold outPts
  rw [← rangeSet_union h1 h2]
  exact pointsTo_union (rangeSet_disj le_rfl)

theorem outPts_nil (f : S33554432.Idx → Elt F .f32) (a : ℕ) : (outPts d L f a a : sProp 𝕄) = iprop(emp) := by
  unfold outPts
  rw [rangeSet_nil]
  exact pointsTo_empty

/-- The slice of the result a chunk's store writes. -/
abbrev chunkM (off : Fin 1 → ℕ) (inb : ∀ a, off a + S32768.size a ≤ S33554432.size a) : Memref sig .scVector .hbm S32768 .f32 :=
  (aO).slice (Rect.unit (s := S33554432) off S32768.size inb) (fun _ => rfl)

omit d L in
theorem set_chunkM {off : Fin 1 → ℕ} (inb : ∀ a, off a + S32768.size a ≤ S33554432.size a) {a : ℕ} (hoff : off = ![a]) :
    (chunkM off inb).view.set = rangeSet a (a + 32768) := by
  subst hoff
  refine (View.set_slice_whole _ _).trans ?_
  ext y
  rw [Rect.mem_set_unit, mem_rangeSet]
  exact ⟨fun h => h 0, fun h (a : Fin 1) => by
    obtain rfl : a = 0 := Subsingleton.elim _ _
    exact h⟩

omit d L in
theorem emb_chunkM {off : Fin 1 → ℕ} (inb : ∀ a, off a + S32768.size a ≤ S33554432.size a) {a : ℕ} (hoff : off = ![a]) (y : S32768.Idx) :
    (((chunkM off inb).view.emb y : S33554432.Idx) 0).val = a + (y 0).val := by
  subst hoff
  show a + 1 * (y 0).val = _
  omega

/-- The bytes one chunk's store is credited. -/
def creditO : ℕ := (chunkM ![0] (by decide)).view.dmaCredit

section Fetch

variable {O : CellTallies nD τ sig (HIx 1)} {W : Waits sig (HIx 1)}

omit d L in
/-- What the fetch lands, word by word. -/
theorem idx_landed (fi : S131072.Idx → Elt F .i32) {off : Fin 1 → ℕ} {inb : ∀ a, off a + S4096.size a ≤ S131072.size a} {n : ℕ} (hoff : off = ![n])
    (f : (sI).view.ty.Contents (Elt F)) (y : S4096.Idx) :
    (sI).view.read (Elt F) ((sI).view.write (Elt F) f
        (((aI).slice (Rect.unit (s := S131072) off S4096.size inb) (fun _ => rfl)).view.read (Elt F) fi) Finset.univ) y
      = rd pos_I fi (n + (y 0).val) := by
  subst hoff
  refine (congrFun (View.read_write_univ (v := (sI).view) f _) y).trans ?_
  refine (rd_val pos_I fi _ _ fun a => ?_).symm
  obtain rfl : a = 0 := Subsingleton.elim _ _
  show n + 1 * (y 0).val = _
  omega

/-- The fetch of the worker's indices and its wait. -/
theorem fetch_idx (fi : S131072.Idx → Elt F .i32) (q : PosShare TreeShare) {off : Fin 1 → ℕ} {inb : ∀ a, off a + S4096.size a ≤ S131072.size a}
    (hoff : off = ![wid L * 4096]) {sem : DmaSem sig} {h1 h2 h3 h4 h5} {α : Type}
    {k : PUnit → Prog (TpuEff nD τ sig (Elt F) Λ₀ (.scVector ((L 0).castLE hcore0) ((L 1).castLE hsub0))) α} {Q : α → sProp 𝕄} :
    iprop(Transfers.MayWaits (thr d L) (default : HIx 1) O ∗ ((aI).view.loc (thr d L) ↦{q} fi) ∗ (∃ f, (sI).view.loc (thr d L) ↦{fullShare} f)
        ∗ semVal (thr d L, SemLoc.dma sem) 0 ∗ owes (thr d L) O W)
      ⊢ iprop((iprop(IdxIs d L (fun p => idxN fi (wid L * 4096 + p)) ∗ ((aI).view.loc (thr d L) ↦{q} fi)
            ∗ semVal (thr d L, SemLoc.dma sem) 0 ∗ owes (thr d L) O (insert (SemLoc.dma sem, (default : HIx 1)) W))
          -∗ wp frame (wpE (defs₀ (F := F)) 𝒱₀ (thr d L) none) Set.univ (k ⟨⟩) Q)
        -∗ wp frame (wpE (defs₀ (F := F)) 𝒱₀ (thr d L) none) Set.univ
          (.op (.enqueueDma ((aI).slice (Rect.unit (s := S131072) off S4096.size inb) (fun _ => rfl)) (.here sI) (.dma sem) h1 h2 h3) fun _ =>
            .op (.waitDma2 sem ((aI).slice (Rect.unit (s := S131072) off S4096.size inb) (fun _ => rfl)) sI h4 h5) k) Q) := by
  iintro ⟨Hmw, Hi, ⟨%f, Hs⟩, Hv, HO⟩ HK
  ihave Hi := (pointsTo_split_subset (q := q) (S := Finset.univ)
    (Finset.subset_univ ((aI).slice (Rect.unit (s := S131072) off S4096.size inb) (fun _ => rfl)).view.set)).1 $$ Hi
  icases Hi with ⟨Hi, Hr⟩
  iapply (Transfers.wp_dmaLocal countersEmb 𝒱₀ (thr d L) none (default : HIx 1) (sI).view.dmaCredit rfl
    (View.dmaCredit_pos _ (show 0 < S4096.numel by decide)) (Finset.subset_univ _)) $$ [Hi Hs Hv]
  · isplitl [Hi]; · iexact Hi
    isplitl [Hs]; · iexact Hs
    iexact Hv
  iintro Hfl
  iapply (Transfers.wp_waitLocalO countersEmb 𝒱₀ (thr d L) none (default : HIx 1) (rfl : (sI).view.dmaCredit = _)) $$ [Hfl HO Hmw]
  · isplitl [Hfl]; · iexact Hfl
    isplitl [HO]; · iexact HO
    iapply (Transfers.MayWaits.elim (SemLoc.dma sem)) $$ Hmw
  iintro ⟨⟨Hs, Hi⟩, Hv, HO⟩
  iapply HK
  isplitl [Hs]
  · unfold IdxIs
    iexists _
    isplitr
    swap; · iexact Hs
    ipureintro
    intro y
    exact congrArg BitVec.toNat (idx_landed fi hoff f y)
  isplitl [Hi Hr]
  · iapply (pointsTo_split_subset (q := q) (S := Finset.univ)
      (Finset.subset_univ ((aI).slice (Rect.unit (s := S131072) off S4096.size inb) (fun _ => rfl)).view.set)).2
    isplitl [Hi]; · iexact Hi
    iexact Hr
  isplitl [Hv]; · iexact Hv
  iexact HO

omit d L in
/-- What the fetch lands, word by word. -/
theorem tab_landed (ft : S278528.Idx → Elt F .f32) {off : Fin 1 → ℕ} {inb : ∀ a, off a + S34816.size a ≤ S278528.size a} {n : ℕ} (hoff : off = ![n])
    (f : (sT).view.ty.Contents (Elt F)) (y : S34816.Idx) :
    (sT).view.read (Elt F) ((sT).view.write (Elt F) f
        (((aT).slice (Rect.unit (s := S278528) off S34816.size inb) (fun _ => rfl)).view.read (Elt F) ft) Finset.univ) y
      = rd pos_T ft (n + (y 0).val) := by
  subst hoff
  refine (congrFun (View.read_write_univ (v := (sT).view) f _) y).trans ?_
  refine (rd_val pos_T ft _ _ fun a => ?_).symm
  obtain rfl : a = 0 := Subsingleton.elim _ _
  show n + 1 * (y 0).val = _
  omega

/-- The fetch of the worker's batch member's table and its wait. -/
theorem fetch_tab (ft : S278528.Idx → Elt F .f32) (q : PosShare TreeShare) {off : Fin 1 → ℕ} {inb : ∀ a, off a + S34816.size a ≤ S278528.size a}
    (hoff : off = ![wid L / 4 * 34816]) {sem : DmaSem sig} {h1 h2 h3 h4 h5} {α : Type}
    {k : PUnit → Prog (TpuEff nD τ sig (Elt F) Λ₀ (.scVector ((L 0).castLE hcore0) ((L 1).castLE hsub0))) α} {Q : α → sProp 𝕄} :
    iprop(Transfers.MayWaits (thr d L) (default : HIx 1) O ∗ ((aT).view.loc (thr d L) ↦{q} ft) ∗ (∃ f, (sT).view.loc (thr d L) ↦{fullShare} f)
        ∗ semVal (thr d L, SemLoc.dma sem) 0 ∗ owes (thr d L) O W)
      ⊢ iprop((iprop(TabIs d L (tabW ft (wid L)) ∗ ((aT).view.loc (thr d L) ↦{q} ft)
            ∗ semVal (thr d L, SemLoc.dma sem) 0 ∗ owes (thr d L) O (insert (SemLoc.dma sem, (default : HIx 1)) W))
          -∗ wp frame (wpE (defs₀ (F := F)) 𝒱₀ (thr d L) none) Set.univ (k ⟨⟩) Q)
        -∗ wp frame (wpE (defs₀ (F := F)) 𝒱₀ (thr d L) none) Set.univ
          (.op (.enqueueDma ((aT).slice (Rect.unit (s := S278528) off S34816.size inb) (fun _ => rfl)) (.here sT) (.dma sem) h1 h2 h3) fun _ =>
            .op (.waitDma2 sem ((aT).slice (Rect.unit (s := S278528) off S34816.size inb) (fun _ => rfl)) sT h4 h5) k) Q) := by
  iintro ⟨Hmw, Hi, ⟨%f, Hs⟩, Hv, HO⟩ HK
  ihave Hi := (pointsTo_split_subset (q := q) (S := Finset.univ)
    (Finset.subset_univ ((aT).slice (Rect.unit (s := S278528) off S34816.size inb) (fun _ => rfl)).view.set)).1 $$ Hi
  icases Hi with ⟨Hi, Hr⟩
  iapply (Transfers.wp_dmaLocal countersEmb 𝒱₀ (thr d L) none (default : HIx 1) (sT).view.dmaCredit rfl
    (View.dmaCredit_pos _ (show 0 < S34816.numel by decide)) (Finset.subset_univ _)) $$ [Hi Hs Hv]
  · isplitl [Hi]; · iexact Hi
    isplitl [Hs]; · iexact Hs
    iexact Hv
  iintro Hfl
  iapply (Transfers.wp_waitLocalO countersEmb 𝒱₀ (thr d L) none (default : HIx 1) (rfl : (sT).view.dmaCredit = _)) $$ [Hfl HO Hmw]
  · isplitl [Hfl]; · iexact Hfl
    isplitl [HO]; · iexact HO
    iapply (Transfers.MayWaits.elim (SemLoc.dma sem)) $$ Hmw
  iintro ⟨⟨Hs, Hi⟩, Hv, HO⟩
  iapply HK
  isplitl [Hs]
  · unfold TabIs
    iexists _
    isplitr
    swap; · iexact Hs
    ipureintro
    intro y
    exact tab_landed ft hoff f y
  isplitl [Hi Hr]
  · iapply (pointsTo_split_subset (q := q) (S := Finset.univ)
      (Finset.subset_univ ((aT).slice (Rect.unit (s := S278528) off S34816.size inb) (fun _ => rfl)).view.set)).2
    isplitl [Hi]; · iexact Hi
    iexact Hr
  isplitl [Hv]; · iexact Hv
  iexact HO

end Fetch

section Store

variable (ft : S278528.Idx → Elt F .f32) (fi : S131072.Idx → Elt F .i32)

/-- The result as the kernel means it. -/
def outF : S33554432.Idx → Elt F .f32 := fun y => outN ft fi (y 0).val

/-- A store in flight on `sem`: its wait brings back the buffer `B` and the result's range `[a, a + 32768)` at its final contents. -/
def StoreOn (sem : DmaSem sig) (B : Memref sig .scVector .vmem S32768 .f32) (a : ℕ) : sProp 𝕄 :=
  Transfers.Flight countersEmb (thr d L) (SemLoc.dma sem) (default : HIx 1) creditO
    iprop(BufAny d L B ∗ outPts d L (outF ft fi) a (a + 32768))

omit d in
/-- What a store leaves on its slice of the result. -/
theorem chunk_written (fo : S33554432.Idx → Elt F .f32) (i : ℕ) {off : Fin 1 → ℕ} {inb : ∀ a, off a + S32768.size a ≤ S33554432.size a} {a : ℕ}
    (ha : a = wid L * 1048576 + i * 32768) (hoff : off = ![a]) (w : S32768.Idx → Elt F .f32) (hw : ∀ y, w y = chunkN ft fi (wid L) i (y 0).val) :
    ∀ x ∈ (chunkM off inb).view.set, (chunkM off inb).view.write (Elt F) fo w Finset.univ x = outF ft fi x := by
  intro x hx
  obtain ⟨y, -, rfl⟩ := Finset.mem_map.mp hx
  refine (View.write_emb_of_mem _ _ (Finset.mem_univ y)).trans ?_
  refine (cast_eq _ _).trans ?_
  rw [hw]
  unfold chunkN outF
  rw [emb_chunkM inb hoff, ha]

/-- Issuing the store of chunk `i`. -/
theorem start_store (fo : S33554432.Idx → Elt F .f32)
    (B : Memref sig .scVector .vmem S32768 .f32) (hB : B.view.set = Finset.univ) (i : ℕ)
    {off : Fin 1 → ℕ} {inb : ∀ a, off a + S32768.size a ≤ S33554432.size a} {a : ℕ} (ha : a = wid L * 1048576 + i * 32768)
    (hoff : off = ![a]) {sem : DmaSem sig} {h1 h2 h3} {α : Type}
    {k : PUnit → Prog (TpuEff nD τ sig (Elt F) Λ₀ (.scVector ((L 0).castLE hcore0) ((L 1).castLE hsub0))) α} {Q : α → sProp 𝕄} :
    iprop(BufIs d L ft fi B (wid L) i ∗ outPts d L fo a (a + 32768) ∗ semVal (thr d L, SemLoc.dma sem) 0)
      ⊢ iprop((StoreOn d L ft fi sem B a -∗ wp frame (wpE (defs₀ (F := F)) 𝒱₀ (thr d L) none) Set.univ (k ⟨⟩) Q)
        -∗ wp frame (wpE (defs₀ (F := F)) 𝒱₀ (thr d L) none) Set.univ
          (.op (.enqueueDma B (.here (chunkM off inb)) (.dma sem) h1 h2 h3) k) Q) := by
  unfold BufIs BufTo outPts
  iintro ⟨⟨%f, %hf, HB⟩, Ho, Hv⟩ HK
  rw [← set_chunkM inb hoff]
  ihave HB := (Entails.of_eq (show (B.view.loc (thr d L) ↦{fullShare} f : sProp 𝕄) = B.view.loc (thr d L) ↦[B.view.set]{fullShare} f by rw [hB])) $$ HB
  iapply (Transfers.wp_dmaLocal countersEmb 𝒱₀ (thr d L) none (dst := chunkM off inb) (default : HIx 1) creditO rfl
    (View.dmaCredit_pos _ (show 0 < S32768.numel by decide)) (Finset.Subset.refl _)) $$ [HB Ho Hv]
  · isplitl [HB]; · iexact HB
    isplitl [Ho]; · iexact Ho
    iexact Hv
  iintro Hfl
  iapply HK
  unfold StoreOn
  iapply (Transfers.Flight_mono countersEmb (thr d L) ?_) $$ Hfl
  iintro ⟨Ho, HB⟩
  isplitl [HB]
  · unfold BufAny
    iexists f
    iapply (Entails.of_eq (show (B.view.loc (thr d L) ↦[B.view.set]{fullShare} f : sProp 𝕄) = B.view.loc (thr d L) ↦{fullShare} f by rw [hB]))
    iexact HB
  unfold outPts
  rw [← set_chunkM inb hoff]
  have hc := chunk_written L ft fi fo i (inb := inb) ha hoff (B.view.read (Elt F) f) fun y => hf y (y 0).isLt
  ihave Ho := (Entails.of_eq (pointsTo_congr hc)) $$ Ho
  iexact Ho

/-- Waiting for it. -/
theorem wait_store {O : CellTallies nD τ sig (HIx 1)} {W : Waits sig (HIx 1)} (B : Memref sig .scVector .vmem S32768 .f32)
    {off : Fin 1 → ℕ} {inb : ∀ a, off a + S32768.size a ≤ S33554432.size a} {a : ℕ} {sem : DmaSem sig} {h1 h2} {α : Type}
    {k : PUnit → Prog (TpuEff nD τ sig (Elt F) Λ₀ (.scVector ((L 0).castLE hcore0) ((L 1).castLE hsub0))) α} {Q : α → sProp 𝕄} :
    iprop(Transfers.MayWaits (thr d L) (default : HIx 1) O ∗ StoreOn d L ft fi sem B a ∗ owes (thr d L) O W)
      ⊢ iprop((iprop(BufAny d L B ∗ outPts d L (outF ft fi) a (a + 32768) ∗ semVal (thr d L, SemLoc.dma sem) 0
            ∗ owes (thr d L) O (insert (SemLoc.dma sem, (default : HIx 1)) W))
          -∗ wp frame (wpE (defs₀ (F := F)) 𝒱₀ (thr d L) none) Set.univ (k ⟨⟩) Q)
        -∗ wp frame (wpE (defs₀ (F := F)) 𝒱₀ (thr d L) none) Set.univ
          (.op (.waitDma2 sem B (chunkM off inb) h1 h2) k) Q) := by
  unfold StoreOn
  iintro ⟨Hmw, Hfl, HO⟩ HK
  iapply (Transfers.wp_waitLocalO countersEmb 𝒱₀ (thr d L) none (dstw := chunkM off inb) (default : HIx 1)
    (rfl : (chunkM off inb).view.dmaCredit = creditO)) $$ [Hfl HO Hmw]
  · isplitl [Hfl]; · iexact Hfl
    isplitl [HO]; · iexact HO
    iapply (Transfers.MayWaits.elim (SemLoc.dma sem)) $$ Hmw
  iintro ⟨⟨HB, Ho⟩, Hv, HO⟩
  iapply HK
  isplitl [HB]; · iexact HB
  isplitl [Ho]; · iexact Ho
  isplitl [Hv]; · iexact Hv
  iexact HO

end Store

end Cert.Proof.Gather

end
-- ==== Proof.Tile.lean ====
/-
  A whole task: the loop that builds a chunk while the one before it is being stored (`trip_t3`), and the task around it (`task_run`).
-/
module

public import proofs.«01_k».proof.Proof.Copies

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aI" => (Memref.whole Cert.KernelIdeal.main_v4_scv : Memref Cert.KernelIdeal.sig Kind.scVector Space.hbm Cert.KernelIdeal.S131072 EltTy.i32)
local notation "aT" => (Memref.whole Cert.KernelIdeal.main_v3_scv : Memref Cert.KernelIdeal.sig Kind.scVector Space.hbm Cert.KernelIdeal.S278528 EltTy.f32)
local notation "aO" => (Memref.whole Cert.KernelIdeal.main_v5_scv : Memref Cert.KernelIdeal.sig Kind.scVector Space.hbm Cert.KernelIdeal.S33554432 EltTy.f32)
local notation "sI" => (Memref.whole Cert.KernelIdeal.cc0_scratch0 : Memref Cert.KernelIdeal.sig Kind.scVector Space.vmem Cert.KernelIdeal.S4096 EltTy.i32)
local notation "sT" => (Memref.whole Cert.KernelIdeal.cc0_scratch1 : Memref Cert.KernelIdeal.sig Kind.scVector Space.vmem Cert.KernelIdeal.S34816 EltTy.f32)
local notation "sA" => (Memref.whole Cert.KernelIdeal.cc0_scratch2 : Memref Cert.KernelIdeal.sig Kind.scVector Space.vmem Cert.KernelIdeal.S32768 EltTy.f32)
local notation "sB" => (Memref.whole Cert.KernelIdeal.cc0_scratch3 : Memref Cert.KernelIdeal.sig Kind.scVector Space.vmem Cert.KernelIdeal.S32768 EltTy.f32)

variable (d : Dev nD) (L : grid0.Coords)

/-! ## Offsets and conditions -/

omit d L in
theorem off2_eq : ∀ i : grid0.Coords, k0_off2 i = ![34816 * ((2 * (i 1).val + (i 0).val) / 4)] := by decide +kernel
omit d L in
theorem cond1_iff : ∀ g : Fin k0_t3_loop.trips, k0_cond1 g = 1#1 ↔ 0 < g.val := by decide +kernel
omit d L in
theorem cond2_iff : ∀ g : Fin k0_t3_loop.trips, k0_cond2 g = 1#1 ↔ g.val < 15 := by decide +kernel
omit d L in
theorem row_odd : ∀ g : Fin k0_t3_loop.trips,
    (Scalar.muli (Scalar.addi (Scalar.muli 2#32 (Scf.iv 0#32 1#32 g.val)) 1#32) 128#32 : BitVec 32).toNat = (2 * g.val + 1) * 128 := by
  decide +kernel
omit d L in
theorem row_even : ∀ g : Fin k0_t3_loop.trips,
    (Scalar.muli (Scalar.addi (Scalar.muli 2#32 (Scf.iv 0#32 1#32 g.val)) 2#32) 128#32 : BitVec 32).toNat = (2 * g.val + 2) * 128 := by
  decide +kernel

/-- Where chunk `n` of the worker's part of the result begins. -/
def pos (n : ℕ) : ℕ := wid L * 1048576 + n * 32768

omit d in
theorem pos_succ (n : ℕ) : pos L n + 32768 = pos L (n + 1) := by unfold pos; omega
omit d in
theorem pos_le {m n : ℕ} (h : m ≤ n) : pos L m ≤ pos L n := by unfold pos; omega

section Loop

variable (ft : S278528.Idx → Elt F .f32) (fi : S131072.Idx → Elt F .i32) (fo : S33554432.Idx → Elt F .f32)
variable (O : CellTallies nD τ sig (HIx 1)) (W : Waits sig (HIx 1))

/-- What the core still owes, its record of waits grown only by waits of its own. -/
def Owing : sProp 𝕄 := iprop(∃ W', ⌜∀ p ∈ W', p ∈ W ∨ p.2 = none⌝ ∗ owes (thr d L) O W')

/-- A wait of the task's own kept apart from the handshakes'. -/
theorem owing_insert {W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact h p hp

/-- The wait for a store, the waits' record left implicit. -/
theorem wait_owing (B : Memref sig .scVector .vmem S32768 .f32)
    {off : Fin 1 → ℕ} {inb : ∀ a, off a + S32768.size a ≤ S33554432.size a} {a : ℕ} {sem : DmaSem sig} {h1 h2} {α : Type}
    {k : PUnit → Prog (TpuEff nD τ sig (Elt F) Λ₀ (.scVector ((L 0).castLE hcore0) ((L 1).castLE hsub0))) α} {Q : α → sProp 𝕄} :
    iprop(Transfers.MayWaits (thr d L) (default : HIx 1) O ∗ StoreOn d L ft fi sem B a ∗ Owing d L O W)
      ⊢ iprop((iprop(BufAny d L B ∗ outPts d L (outF ft fi) a (a + 32768) ∗ semVal (thr d L, SemLoc.dma sem) 0 ∗ Owing d L O W)
          -∗ wp frame (wpE (defs₀ (F := F)) 𝒱₀ (thr d L) none) Set.univ (k ⟨⟩) Q)
        -∗ wp frame (wpE (defs₀ (F := F)) 𝒱₀ (thr d L) none) Set.univ (.op (.waitDma2 sem B (chunkM off inb) h1 h2) k) Q) := by
  unfold Owing
  iintro ⟨Hmw, Hs, %W', %hW, HO⟩ HK
  iapply (wait_store d L ft fi B) $$ [Hmw Hs HO]
  · isplitl [Hmw]; · iexact Hmw
    isplitl [Hs]; · iexact Hs
    iexact HO
  iintro ⟨HB, Ho, Hv, HO⟩
  iapply HK
  isplitl [HB]; · iexact HB
  isplitl [Ho]; · iexact Ho
  isplitl [Hv]; · iexact Hv
  iexists _
  isplitr
  swap; · iexact HO
  ipureintro
  exact owing_insert W hW _

/-- The second buffer before trip `g`: idle at first, afterwards in flight with chunk `2 g - 1`; and the result up to what it will bring. -/
def Tail : ℕ → sProp 𝕄
  | 0 => iprop(semVal (thr d L, SemLoc.dma (cc0_scratch5).sem) 0 ∗ BufAny d L sB)
  | g + 1 => iprop(StoreOn d L ft fi (cc0_scratch5).sem sB (pos L (2 * g + 1)) ∗ outPts d L (outF ft fi) (pos L 0) (pos L (2 * g + 1)))

/-- The first buffer before trip `g`: chunk `2 g`, built. -/
def Head (g : ℕ) : sProp 𝕄 := if g < 16 then BufIs d L ft fi sA (wid L) (2 * g) else BufAny d L sA

/-- Before trip `g`. -/
def Trip (g : ℕ) : sProp 𝕄 :=
  iprop(Transfers.MayWaits (thr d L) (default : HIx 1) O ∗ IdxIs d L (idxW fi (wid L)) ∗ TabIs d L (tabW ft (wid L)) ∗ Head d L ft fi g
    ∗ semVal (thr d L, SemLoc.dma (cc0_scratch4).sem) 0 ∗ outPts d L fo (pos L (2 * g)) (pos L 32) ∗ Tail d L ft fi g ∗ Owing d L O W)

/-- Joining the range a wait brought back to the range before it. -/
theorem outPts_snoc (f : S33554432.Idx → Elt F .f32) (n : ℕ) :
    iprop(outPts d L f (pos L 0) (pos L n) ∗ outPts d L f (pos L n) (pos L n + 32768)) ⊢ (outPts d L f (pos L 0) (pos L (n + 1)) : sProp 𝕄) := by
  rw [pos_succ]
  exact (outPts_join d L f (pos_le L (Nat.zero_le n)) (pos_le L (Nat.le_succ n))).2

/-- Taking the next chunk's range off what is not yet written. -/
theorem outPts_uncons (f : S33554432.Idx → Elt F .f32) {n : ℕ} (hn : n < 32) :
    (outPts d L f (pos L n) (pos L 32) : sProp 𝕄) ⊢ iprop(outPts d L f (pos L n) (pos L n + 32768) ∗ outPts d L f (pos L (n + 1)) (pos L 32)) := by
  rw [pos_succ]
  exact (outPts_join d L f (pos_le L (Nat.le_succ n)) (pos_le L hn)).1

omit d in
theorem off21 (g : Fin k0_t3_loop.trips) : k0_off21 L g = ![pos L (2 * g.val)] := by
  rw [k0_off21_eq]
  refine congrArg (fun n : ℕ => (![n] : Fin 1 → ℕ)) ?_
  unfold pos wid
  omega
omit d in
theorem off38 (g : Fin k0_t3_loop.trips) : k0_off38 L g = ![pos L (2 * g.val + 1)] := by
  rw [k0_off38_eq]
  refine congrArg (fun n : ℕ => (![n] : Fin 1 → ℕ)) ?_
  unfold pos wid
  omega

theorem set_sA : (sA).view.set = Finset.univ := View.set_whole _
theorem set_sB : (sB).view.set = Finset.univ := View.set_whole _

/-- One trip: the wait for the second buffer, the first's store issued, the second's chunk built under it, the first's store awaited, the
    second's issued, and the first's next chunk built under that. -/
theorem trip_t3 (hpre : ∀ n, idxN fi n ≤ 128) (v2 : BitVec 32) (g : Fin k0_t3_loop.trips) :
    Trip d L ft fi fo O W g.val
      ⊢ wp frame (wpE (defs₀ (F := F)) 𝒱₀ (thr d L) none) Set.univ
        (k0_t3_body L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1
          v2 (iota .scVector S16 32 [0] iota_S16_d0_w32_scVector) k0_pay11 k0_pay12 32#32 g ())
        fun _ => Trip d L ft fi fo O W (g.val + 1) := by
  have hg : g.val < 16 := lt_of_lt_of_eq g.isLt trips_t3
  unfold Trip Head k0_t3_body
  rw [if_pos hg]
  simp only [Prog.lift, Prog.bind_op, Prog.bind_ret, Prog.pure_eq_ret]
  have hmid : (iprop(semVal (thr d L, SemLoc.dma (cc0_scratch5).sem) 0 ∗ BufAny d L sB) : sProp 𝕄)
      ⊢ iprop(semVal (thr d L, SemLoc.dma (cc0_scratch5).sem) 0 ∗ BufAny d L sB ∗ outPts d L (outF ft fi) (pos L 0) (pos L 0)) := by
    rw [outPts_nil]
    iintro ⟨H1, H2⟩
    isplitl [H1]; · iexact H1
    isplitl [H2]; · iexact H2
    iempintro
  iintro ⟨#Hmw, HI, HT, HA, Hs4, Hfo, Htl, HO⟩
  by_cases h1 : k0_cond1 g = 1#1
  · obtain ⟨g', hg'⟩ : ∃ g', g.val = g' + 1 := ⟨g.val - 1, by have := (cond1_iff g).mp h1; omega⟩
    simp only [dif_pos h1]
    ihave Htl := (Entails.of_eq (show Tail d L ft fi g.val = (iprop(StoreOn d L ft fi (cc0_scratch5).sem sB (pos L (2 * g' + 1))
      ∗ outPts d L (outF ft fi) (pos L 0) (pos L (2 * g' + 1))) : sProp 𝕄) by rw [hg']; rfl)) $$ Htl
    icases Htl with ⟨Hst, Hod⟩
    iapply (wait_owing d L ft fi O W sB) $$ [Hst HO]
    · isplitr; · iexact Hmw
      isplitl [Hst]; · iexact Hst
      iexact HO
    iintro ⟨HB, Ho, Hs5, HO⟩
    ihave Hod := (outPts_snoc d L (outF ft fi) (2 * g' + 1)) $$ [Hod Ho]
    · isplitl [Hod]; · iexact Hod
      iexact Ho
    rw [show 2 * g' + 1 + 1 = 2 * g.val by omega]
    ihave Hfo := (outPts_uncons d L fo (show 2 * g.val < 32 by omega)) $$ Hfo
    icases Hfo with ⟨Hc, Hfo⟩
    iapply (start_store d L ft fi fo sA set_sA (2 * g.val) rfl (off21 L g)) $$ [HA Hc Hs4]
    · isplitl [HA]; · iexact HA
      isplitl [Hc]; · iexact Hc
      iexact Hs4
    iintro HstA
    iapply (build_t4 d L ft fi hpre v2 (2 * g.val + 1) (by omega) _ (row_odd g)) $$ [HI HT HB]
    · isplitl [HI]; · iexact HI
      isplitl [HT]; · iexact HT
      iexact HB
    iintro ⟨HI, HT, HB⟩
    iapply (wait_owing d L ft fi O W sA) $$ [HstA HO]
    · isplitr; · iexact Hmw
      isplitl [HstA]; · iexact HstA
      iexact HO
    iintro ⟨HA, Ho, Hs4, HO⟩
    ihave Hod := (outPts_snoc d L (outF ft fi) (2 * g.val)) $$ [Hod Ho]
    · isplitl [Hod]; · iexact Hod
      iexact Ho
    ihave Hfo := (outPts_uncons d L fo (show 2 * g.val + 1 < 32 by omega)) $$ Hfo
    icases Hfo with ⟨Hc, Hfo⟩
    iapply (start_store d L ft fi fo sB set_sB (2 * g.val + 1) rfl (off38 L g)) $$ [HB Hc Hs5]
    · isplitl [HB]; · iexact HB
      isplitl [Hc]; · iexact Hc
      iexact Hs5
    iintro HstB
    by_cases h2 : k0_cond2 g = 1#1
    · have hg2 := (cond2_iff g).mp h2
      simp only [dif_pos h2]
      iapply (build_t5 d L ft fi hpre v2 (2 * g.val + 2) (by omega) g h2 _ (row_even g)) $$ [HI HT HA]
      · isplitl [HI]; · iexact HI
        isplitl [HT]; · iexact HT
        iexact HA
      iintro ⟨HI, HT, HA⟩
      sl_step
      rw [if_pos (show g.val + 1 < 16 by omega)]
      isplitr; · iexact Hmw
      isplitl [HI]; · iexact HI
      isplitl [HT]; · iexact HT
      isplitl [HA]; · iexact HA
      isplitl [Hs4]; · iexact Hs4
      isplitl [Hfo]; · iexact Hfo
      isplitl [HstB Hod]
      · unfold Tail
        isplitl [HstB]; · iexact HstB
        iexact Hod
      iexact HO
    · have hg2 := (cond2_iff g).not.mp h2
      simp only [dif_neg h2]
      sl_step
      rw [if_neg (show ¬g.val + 1 < 16 by omega)]
      isplitr; · iexact Hmw
      isplitl [HI]; · iexact HI
      isplitl [HT]; · iexact HT
      isplitl [HA]; · iexact HA
      isplitl [Hs4]; · iexact Hs4
      isplitl [Hfo]; · iexact Hfo
      isplitl [HstB Hod]
      · unfold Tail
        isplitl [HstB]; · iexact HstB
        iexact Hod
      iexact HO
  · simp only [dif_neg h1]
    have hg0 : g.val = 0 := by have := (cond1_iff g).not.mp h1; omega
    ihave Htl := (Entails.of_eq (show Tail d L ft fi g.val = (iprop(semVal (thr d L, SemLoc.dma (cc0_scratch5).sem) 0 ∗ BufAny d L sB) : sProp 𝕄)
      by rw [hg0]; rfl)) $$ Htl
    ihave Htl := hmid $$ Htl
    icases Htl with ⟨Hs5, HB, Hod⟩
    ihave Hod := (Entails.of_eq (show (outPts d L (outF ft fi) (pos L 0) (pos L 0) : sProp 𝕄) = outPts d L (outF ft fi) (pos L 0) (pos L (2 * g.val))
      by rw [hg0])) $$ Hod
    ihave Hfo := (outPts_uncons d L fo (show 2 * g.val < 32 by omega)) $$ Hfo
    icases Hfo with ⟨Hc, Hfo⟩
    iapply (start_store d L ft fi fo sA set_sA (2 * g.val) rfl (off21 L g)) $$ [HA Hc Hs4]
    · isplitl [HA]; · iexact HA
      isplitl [Hc]; · iexact Hc
      iexact Hs4
    iintro HstA
    iapply (build_t4 d L ft fi hpre v2 (2 * g.val + 1) (by omega) _ (row_odd g)) $$ [HI HT HB]
    · isplitl [HI]; · iexact HI
      isplitl [HT]; · iexact HT
      iexact HB
    iintro ⟨HI, HT, HB⟩
    iapply (wait_owing d L ft fi O W sA) $$ [HstA HO]
    · isplitr; · iexact Hmw
      isplitl [HstA]; · iexact HstA
      iexact HO
    iintro ⟨HA, Ho, Hs4, HO⟩
    ihave Hod := (outPts_snoc d L (outF ft fi) (2 * g.val)) $$ [Hod Ho]
    · isplitl [Hod]; · iexact Hod
      iexact Ho
    ihave Hfo := (outPts_uncons d L fo (show 2 * g.val + 1 < 32 by omega)) $$ Hfo
    icases Hfo with ⟨Hc, Hfo⟩
    iapply (start_store d L ft fi fo sB set_sB (2 * g.val + 1) rfl (off38 L g)) $$ [HB Hc Hs5]
    · isplitl [HB]; · iexact HB
      isplitl [Hc]; · iexact Hc
      iexact Hs5
    iintro HstB
    by_cases h2 : k0_cond2 g = 1#1
    · have hg2 := (cond2_iff g).mp h2
      simp only [dif_pos h2]
      iapply (build_t5 d L ft fi hpre v2 (2 * g.val + 2) (by omega) g h2 _ (row_even g)) $$ [HI HT HA]
      · isplitl [HI]; · iexact HI
        isplitl [HT]; · iexact HT
        iexact HA
      iintro ⟨HI, HT, HA⟩
      sl_step
      rw [if_pos (show g.val + 1 < 16 by omega)]
      isplitr; · iexact Hmw
      isplitl [HI]; · iexact HI
      isplitl [HT]; · iexact HT
      isplitl [HA]; · iexact HA
      isplitl [Hs4]; · iexact Hs4
      isplitl [Hfo]; · iexact Hfo
      isplitl [HstB Hod]
      · unfold Tail
        isplitl [HstB]; · iexact HstB
        iexact Hod
      iexact HO
    · have hg2 := (cond2_iff g).not.mp h2
      simp only [dif_neg h2]
      sl_step
      rw [if_neg (show ¬g.val + 1 < 16 by omega)]
      isplitr; · iexact Hmw
      isplitl [HI]; · iexact HI
      isplitl [HT]; · iexact HT
      isplitl [HA]; · iexact HA
      isplitl [Hs4]; · iexact Hs4
      isplitl [Hfo]; · iexact Hfo
      isplitl [HstB Hod]
      · unfold Tail
        isplitl [HstB]; · iexact HstB
        iexact Hod
      iexact HO

end Loop

/-! ## The task -/

abbrev cell (sem : DmaSem sig) : GSem nD τ sig := (thr d L, SemLoc.dma sem)

/-- The four copies' counters are among the subcore's own: they are them at zero, and the rest. -/
theorem ownSems0_thr :
    (ownSems0 (thr d L) : sProp 𝕄)
      = iprop(semVal (cell d L (cc0_scratch4).sem) 0 ∗ semVal (cell d L (cc0_scratch5).sem) 0 ∗ semVal (cell d L (cc0_scoped0).sem) 0
          ∗ semVal (cell d L (cc0_scoped1).sem) 0
          ∗ bigSep (((((ownCells (thr d L)).erase (cell d L (cc0_scratch4).sem)).erase (cell d L (cc0_scratch5).sem)).erase
              (cell d L (cc0_scoped0).sem)).erase (cell d L (cc0_scoped1).sem)) fun g => semVal g 0) := by
  have hm : ∀ sem : DmaSem sig, (SemLoc.dma sem : SemLoc sig).isScoped .scVector = true → cell d L sem ∈ ownCells (thr d L) :=
    fun sem h => (mem_ownCells (g := cell d L sem)).mpr ⟨rfl, h⟩
  have hne : ∀ {a b : DmaSem sig}, a ≠ b → cell d L a ≠ cell d L b := fun h e => h (SemLoc.dma.inj (congrArg Prod.snd e))
  unfold SparseCore.Cfg.ownSems0
  rw [SparseCore.bigSep_erase' (hm (cc0_scratch4).sem (by decide)),
    SparseCore.bigSep_erase' (Finset.mem_erase.mpr ⟨hne (by decide), hm (cc0_scratch5).sem (by decide)⟩),
    SparseCore.bigSep_erase' (Finset.mem_erase.mpr ⟨hne (by decide), Finset.mem_erase.mpr ⟨hne (by decide), hm (cc0_scoped0).sem (by decide)⟩⟩),
    SparseCore.bigSep_erase' (Finset.mem_erase.mpr ⟨hne (by decide), Finset.mem_erase.mpr ⟨hne (by decide),
      Finset.mem_erase.mpr ⟨hne (by decide), hm (cc0_scoped1).sem (by decide)⟩⟩⟩)]

abbrev own (b : Ref sig .scVector) : DevRef τ sig := (Proc.scVector (cV L) (jV L)).devRef b

/-- The four scratch buffers are among the subcore's own: they are them, at some contents, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (own L cc0_scratch0)).erase (own L cc0_scratch1)).erase
              (own L cc0_scratch2)).erase (own L cc0_scratch3)) fun b => iprop(∃ f, ((d, b) : Loc nD τ sig) ↦{fullShare} f)) := by
  have hne : ∀ {a b : Ref sig .scVector}, a ≠ b → own L a ≠ own L b := fun h e => h (Proc.devRef_injective _ e)
  unfold SparseCore.Cfg.ownBufs
  refine (SparseCore.bigSep_erase' (SparseCore.Cfg.mem_ownRefs_of_owner (p := Proc.scVector (cV L) (jV L)) (b := own L cc0_scratch0) rfl)).trans ?_
  rw [SparseCore.bigSep_erase' (Finset.mem_erase.mpr ⟨hne (by decide),
      SparseCore.Cfg.mem_ownRefs_of_owner (p := Proc.scVector (cV L) (jV L)) (b := own L cc0_scratch1) rfl⟩),
    SparseCore.bigSep_erase' (Finset.mem_erase.mpr ⟨hne (by decide), Finset.mem_erase.mpr ⟨hne (by decide),
      SparseCore.Cfg.mem_ownRefs_of_owner (p := Proc.scVector (cV L) (jV L)) (b := own L cc0_scratch2) rfl⟩⟩),
    SparseCore.bigSep_erase' (Finset.mem_erase.mpr ⟨hne (by decide), Finset.mem_erase.mpr ⟨hne (by decide), Finset.mem_erase.mpr ⟨hne (by decide),
      SparseCore.Cfg.mem_ownRefs_of_owner (p := Proc.scVector (cV L) (jV L)) (b := own L cc0_scratch3) rfl⟩⟩⟩)]

section Task

variable (ft : S278528.Idx → Elt F .f32) (fi : S131072.Idx → Elt F .i32) (fo : S33554432.Idx → Elt F .f32)

omit d in
theorem off1_wid : k0_off1 L = ![wid L * 4096] := by
  rw [k0_off1_eq]
  refine congrArg (fun n : ℕ => (![n] : Fin 1 → ℕ)) ?_
  unfold wid
  omega
omit d in
theorem off2_wid : k0_off2 L = ![wid L / 4 * 34816] := by
  rw [off2_eq]
  refine congrArg (fun n : ℕ => (![n] : Fin 1 → ℕ)) ?_
  unfold wid
  omega

set_option maxHeartbeats 1000000 in
/-- The task on vector subcore `(L 0, L 1)` of device `d`: from its shares of the indices and of the table and its part of the result at
    any contents, to its part of the result as the kernel means it. -/
theorem task_run (hF : (K (F := F)).Facts) (hpre : ∀ n, idxN fi n ≤ 128) (q : PosShare TreeShare) (O : CellTallies nD τ sig (HIx 1))
    (W : Waits sig (HIx 1)) (hO : ∀ g, O g none = 0) :
    iprop(levAts (K (F := F)).L (K (F := F)).lev ∗ emp
        ∗ (((aI).view.loc (thr d L) ↦{q} fi) ∗ ((aT).view.loc (thr d L) ↦{q} ft) ∗ outPts d L fo (pos L 0) (pos L 32))
        ∗ scopedBufs (thr d L) ∗ scopedSems0 (thr d L) ∗ owes (thr d L) O W)
      ⊢ wp frame (wpE (defs₀ (F := F)) 𝒱₀ (thr d L) none) Set.univ
          (cc0_gather_kernel L aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1)
          fun _ => iprop((((aI).view.loc (thr d L) ↦{q} fi) ∗ ((aT).view.loc (thr d L) ↦{q} ft) ∗ outPts d L (outF ft fi) (pos L 0) (pos L 32))
            ∗ scopedBufs (thr d L) ∗ scopedSems0 (thr d L) ∗ ∃ W', ⌜∀ p ∈ W', p ∈ W ∨ p.2 = none⌝ ∗ owes (thr d L) O W') := by
  rw [cc0_gather_kernel_eq_skeleton]
  unfold cc0_gather_kernel_skel
  rw [k0_part8_eq_skeleton, k0_part9_eq_skeleton]
  unfold k0_part8_skel k0_part9_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_thr, ownBufs_thr]
  iintro ⟨#Hlv, -, ⟨Hi, Ht, Ho⟩, ⟨HsI, HsT, HsA, HsB, Hbufs⟩, ⟨Hs4, Hs5, Hv0, Hv1, Hsems⟩, HO⟩
  ihave #Hmw := (show levAts (K (F := F)).L (K (F := F)).lev ⊢ Transfers.MayWaits (thr d L) (default : HIx 1) O from
    (K (F := F)).mayWaits_none (thr := thr d L) hO) $$ Hlv
  iapply (fetch_idx d L fi q (off1_wid L)) $$ [Hi HsI Hv0 HO]
  · isplitr; · iexact Hmw
    isplitl [Hi]; · iexact Hi
    isplitl [HsI]; · iexact HsI
    isplitl [Hv0]; · iexact Hv0
    iexact HO
  iintro ⟨HI, Hi, Hv0, HO⟩
  iapply (fetch_tab d L ft q (off2_wid L)) $$ [Ht HsT Hv1 HO]
  · isplitr; · iexact Hmw
    isplitl [Ht]; · iexact Ht
    isplitl [HsT]; · iexact HsT
    isplitl [Hv1]; · iexact Hv1
    iexact HO
  iintro ⟨HT, Ht, Hv1, HO⟩
  iapply (scale_t1 d L (fun p => idxN fi (wid L * 4096 + p)) (fun p => hpre _)) $$ HI
  iintro HI
  iapply (build_t2 d L ft fi hpre _) $$ [HI HT HsA]
  · isplitl [HI]; · iexact HI
    isplitl [HT]; · iexact HT
    unfold BufAny
    iexact HsA
  iintro ⟨HI, HT, HA⟩
  iapply (Scf.wp_for_bind frame (wpE (defs₀ (F := F)) 𝒱₀ (thr d L) none) Set.univ _ _ _ k0_t3_ok ⟨⟩ _
    (fun n _ => Trip d L ft fi fo O W n) (fun k _ => trip_t3 d L ft fi fo O W hpre _ k)) $$ [HI HT HA HsB Hs4 Hs5 Ho HO]
  · unfold Trip Head
    rw [if_pos (show 0 < 16 by decide)]
    isplitr; · iexact Hmw
    isplitl [HI]; · iexact HI
    isplitl [HT]; · iexact HT
    isplitl [HA]; · iexact HA
    isplitl [Hs4]; · iexact Hs4
    isplitl [Ho]; · iexact Ho
    isplitl [Hs5 HsB]
    · unfold Tail
      isplitl [Hs5]; · iexact Hs5
      unfold BufAny
      iexact HsB
    unfold Owing
    iexists _
    isplitr
    swap; · iexact HO
    ipureintro
    intro p hp
    rcases Finset.mem_insert.mp hp with hp | hp; · exact .inr (hp ▸ rfl)
    rcases Finset.mem_insert.mp hp with hp | hp; · exact .inr (hp ▸ rfl)
    exact .inl hp
  iintro %u Htrip
  ihave Htrip := (Entails.of_eq (show Trip d L ft fi fo O W k0_t3_loop.trips = Trip d L ft fi fo O W (15 + 1) by rw [trips_t3])) $$ Htrip
  unfold Trip Head Tail
  rw [if_neg (show ¬15 + 1 < 16 by decide)]
  icases Htrip with ⟨-, HI, HT, HA, Hs4, -, ⟨Hst, Hod⟩, HO⟩
  iapply (wait_owing d L ft fi O W sB) $$ [Hst HO]
  · isplitr; · iexact Hmw
    isplitl [Hst]; · iexact Hst
    iexact HO
  iintro ⟨HB, Ho, Hs5, HO⟩
  ihave Hod := (outPts_snoc d L (outF ft fi) (2 * 15 + 1)) $$ [Hod Ho]
  · isplitl [Hod]; · iexact Hod
    iexact Ho
  sl_step
  isplitl [Hi Ht Hod]
  · isplitl [Hi]; · iexact Hi
    isplitl [Ht]; · iexact Ht
    iexact Hod
  isplitl [HI HT HA HB Hbufs]
  · unfold IdxIs TabIs BufAny
    isplitl [HI]
    · icases HI with ⟨%f, -, HI⟩
      iexists f; iexact HI
    isplitl [HT]
    · icases HT with ⟨%f, -, HT⟩
      iexists f; iexact HT
    isplitl [HA]; · iexact HA
    isplitl [HB]; · iexact HB
    iexact Hbufs
  isplitl [Hs4 Hs5 Hv0 Hv1 Hsems]
  · isplitl [Hs4]; · iexact Hs4
    isplitl [Hs5]; · iexact Hs5
    isplitl [Hv0]; · iexact Hv0
    isplitl [Hv1]; · iexact Hv1
    iexact Hsems
  unfold Owing
  iexact HO

end Task

end Cert.Proof.Gather

end
-- ==== Proof.Launch.lean ====
/-
  The whole program's run, over any floats: what the call gives each of its 32 tasks and takes back, the TensorCore's program around
  the call, and the launch. The result (`run_main`): the result buffer ends at `result`, the arguments are unchanged, every counter is zero.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aI" => (Memref.whole Cert.KernelIdeal.main_v4_scv : Memref Cert.KernelIdeal.sig Kind.scVector Space.hbm Cert.KernelIdeal.S131072 EltTy.i32)
local notation "aT" => (Memref.whole Cert.KernelIdeal.main_v3_scv : Memref Cert.KernelIdeal.sig Kind.scVector Space.hbm Cert.KernelIdeal.S278528 EltTy.f32)
local notation "aO" => (Memref.whole Cert.KernelIdeal.main_v5_scv : Memref Cert.KernelIdeal.sig Kind.scVector Space.hbm Cert.KernelIdeal.S33554432 EltTy.f32)
local notation "sI" => (Memref.whole Cert.KernelIdeal.cc0_scratch0 : Memref Cert.KernelIdeal.sig Kind.scVector Space.vmem Cert.KernelIdeal.S4096 EltTy.i32)
local notation "sT" => (Memref.whole Cert.KernelIdeal.cc0_scratch1 : Memref Cert.KernelIdeal.sig Kind.scVector Space.vmem Cert.KernelIdeal.S34816 EltTy.f32)
local notation "sA" => (Memref.whole Cert.KernelIdeal.cc0_scratch2 : Memref Cert.KernelIdeal.sig Kind.scVector Space.vmem Cert.KernelIdeal.S32768 EltTy.f32)
local notation "sB" => (Memref.whole Cert.KernelIdeal.cc0_scratch3 : Memref Cert.KernelIdeal.sig Kind.scVector Space.vmem Cert.KernelIdeal.S32768 EltTy.f32)

variable (m : (ℓ : Loc nD τ sig) → Buf (Elt F) ℓ) (ρ : Dev nD → PrngReg)

/-! ## What a task holds -/

abbrev iLoc (d : Dev nD) : Loc nD τ sig := (SparseCore.T d).loc main_v4
abbrev tLoc (d : Dev nD) : Loc nD τ sig := (SparseCore.T d).loc main_v3
abbrev oLoc (d : Dev nD) : Loc nD τ sig := (SparseCore.T d).loc main_v5

/-- Task `(c, i)` as one of the 32 workers. -/
def worker (c : Fin 2) (i : Fin 16) : Fin (2 ^ 5) := ⟨2 * i.val + c.val, by have := c.isLt; have := i.isLt; omega⟩

/-- The workers, numbered. -/
def workers : Fin 2 × Fin 16 ≃ Fin (2 ^ 5) where
  toFun p := worker p.1 p.2
  invFun w := (⟨w.val % 2, Nat.mod_lt _ (by decide)⟩, ⟨w.val / 2, by have := w.isLt; omega⟩)
  left_inv p := by
    have := p.1.isLt
    refine Prod.ext (Fin.ext ?_) (Fin.ext ?_) <;> (simp only [worker]; omega)
  right_inv w := by
    refine Fin.ext ?_
    simp only [worker]; omega

/-- Worker `w`'s words of the result. -/
def workerSet (w : Fin (2 ^ 5)) : Finset S33554432.Idx := rangeSet (w.val * 1048576) (w.val * 1048576 + 1048576)

/-- A worker's share of the indices and of the table, and its words of the result at contents `f`. -/
def share (d : Dev nD) (ft : S278528.Idx → Elt F .f32) (fi : S131072.Idx → Elt F .i32) (f : S33554432.Idx → Elt F .f32)
    (w : Fin (2 ^ 5)) : sProp 𝕄 :=
  iprop((iLoc d ↦{ShareLeaves.leaf 5 fullShare w} fi) ∗ (tLoc d ↦{ShareLeaves.leaf 5 fullShare w} ft)
    ∗ (oLoc d ↦[workerSet w]{fullShare} f))

instance share_storable (d : Dev nD) (ft : S278528.Idx → Elt F .f32) (fi : S131072.Idx → Elt F .i32) (f : S33554432.Idx → Elt F .f32)
    (w : Fin (2 ^ 5)) : BI.Storable (upEmb : UEmb _ 𝕄) (share d ft fi f w) := by
  unfold share; infer_instance

theorem workerSet_disj : ∀ v ∈ (Finset.univ : Finset (Fin (2 ^ 5))), ∀ w ∈ (Finset.univ : Finset (Fin (2 ^ 5))), v ≠ w →
    Disjoint (workerSet v) (workerSet w) := by
  intro v _ w _ h
  unfold workerSet
  rcases Nat.lt_or_gt_of_ne (fun e => h (Fin.ext e)) with h | h
  · exact rangeSet_disj (by omega)
  · exact (rangeSet_disj (by omega)).symm

theorem workerSet_cover : (Finset.univ : Finset (Fin (2 ^ 5))).biUnion workerSet = Finset.univ := by
  refine Finset.eq_univ_iff_forall.mpr fun y => Finset.mem_biUnion.mpr ?_
  have hy : (y 0).val < 33554432 := (y 0).isLt
  refine ⟨⟨(y 0).val / 1048576, by omega⟩, Finset.mem_univ _, ?_⟩
  unfold workerSet
  rw [mem_rangeSet]
  dsimp only
  omega

/-- The three whole arrays are the 32 workers' shares of them. -/
theorem shares_eq (d : Dev nD) (ft : S278528.Idx → Elt F .f32) (fi : S131072.Idx → Elt F .i32) (f : S33554432.Idx → Elt F .f32) :
    (iprop((iLoc d ↦{fullShare} fi) ∗ (tLoc d ↦{fullShare} ft) ∗ (oLoc d ↦{fullShare} f)) : sProp 𝕄)
      = bigSep Finset.univ fun c : Fin 2 => bigSep Finset.univ fun i : Fin 16 => share d ft fi f (worker c i) := by
  have ho : (oLoc d ↦{fullShare} f : sProp 𝕄) = bigSep Finset.univ fun w : Fin (2 ^ 5) => oLoc d ↦[workerSet w]{fullShare} f := by
    rw [← pointsTo_biUnion Finset.univ (ℓ := oLoc d) workerSet workerSet_disj, workerSet_cover]
  rw [ho, ShareLeaves.pointsTo_leaves Finset.univ (ℓ := iLoc d) fi 5 fullShare, ShareLeaves.pointsTo_leaves Finset.univ (ℓ := tLoc d) ft 5 fullShare,
    ← bigSep_sep', ← bigSep_sep']
  refine Eq.trans ?_ (bigSep_univ_prod fun p : Fin 2 × Fin 16 => share d ft fi f (worker p.1 p.2))
  exact bigSep_univ_equiv workers (fun w => share d ft fi f w)

/-! ## The TensorCore's operations around the call -/

/-- The operations before the call: the padded table and the flattened indices. -/
abbrev preOps : List (HloOp τ sig (Elt F)) :=
  [ StableHlo.nullary main_cst (constant S_ .f32 0x00000000#32),
    StableHlo.unary main_cst main_v0 (broadcastInDim S8x1x256 ![] bcast_S_S8x1x256 : (⟨S_, .f32⟩ : BufTy).Contents (Elt F) → (⟨S8x1x256, .f32⟩ : BufTy).Contents (Elt F)),
    StableHlo.nullary main_cst_0 (constant S_ .f32 0x00000000#32),
    StableHlo.unary main_cst_0 main_v1 (broadcastInDim S8x7x256 ![] bcast_S_S8x7x256 : (⟨S_, .f32⟩ : BufTy).Contents (Elt F) → (⟨S8x7x256, .f32⟩ : BufTy).Contents (Elt F)),
    StableHlo.nary ![main_v0, main_arg1, main_v1] main_v2 (fun u => (concatenate S8x136x256 1 [⟨S8x1x256, (u 0 : (⟨S8x1x256, .f32⟩ : BufTy).Contents (Elt F))⟩, ⟨S8x128x256, (u 1 : (⟨S8x128x256, .f32⟩ : BufTy).Contents (Elt F))⟩, ⟨S8x7x256, (u 2 : (⟨S8x7x256, .f32⟩ : BufTy).Contents (Elt F))⟩] concatenates_S8x1x256_S8x128x256_S8x7x256_S8x136x256_d1 : (⟨S8x136x256, .f32⟩ : BufTy).Contents (Elt F))),
    StableHlo.reshape main_v2 main_v3 (rfl : (.f32 : EltTy) = .f32) shapeCasts_S8x136x256_S278528,
    StableHlo.reshape main_arg0 main_v4 (rfl : (.i32 : EltTy) = .i32) shapeCasts_S8x128x128_S131072 ]

/-- The operation after the call: the result in its four dimensions. -/
abbrev postOps : List (HloOp τ sig (Elt F)) :=
  [ StableHlo.reshape main_v5 main_v6 (rfl : (.f32 : EltTy) = .f32) shapeCasts_S33554432_S8x128x128x256 ]

theorem main_split (d : Dev nD) :
    main (F := F) d = (StableHlo.seq preOps >>= fun _ => (sc.run d 0 >>= fun _ => (StableHlo.seq postOps >>= fun _ => pure ⟨⟩))) := by
  simp only [main, StableHlo.seq, bind_assoc, pure_bind]

abbrev a0' : DevRef τ sig := Proc.devRef .tc (main_arg0 : Ref sig .tc)
abbrev a1' : DevRef τ sig := Proc.devRef .tc (main_arg1 : Ref sig .tc)
abbrev t' : DevRef τ sig := Proc.devRef .tc (main_v3 : Ref sig .tc)
abbrev i' : DevRef τ sig := Proc.devRef .tc (main_v4 : Ref sig .tc)
abbrev o' : DevRef τ sig := Proc.devRef .tc (main_v5 : Ref sig .tc)
abbrev r' : DevRef τ sig := Proc.devRef .tc (main_v6 : Ref sig .tc)

/-- The TensorCore's arrays. -/
abbrev SA : Finset (DevRef τ sig) := Finset.univ.map ⟨Proc.devRef .tc, Proc.devRef_injective .tc⟩

/-- What the arrays hold at launch, before the call, after it, and at the end. -/
def V0 (d : Dev nD) : Valuation τ sig (Elt F) := fun b => m (d, b)
def V1 (d : Dev nD) : Valuation τ sig (Elt F) := StableHlo.after preOps (V0 m d)

/-- The padded table: a row of zeros, the 128 feature rows, seven rows of zeros, for each batch member; flattened. -/
def table (g : S8x128x256.Idx → Elt F .f32) : S278528.Idx → Elt F .f32 :=
  shapeCast S278528 (concatenate S8x136x256 1
    [⟨S8x1x256, (broadcastInDim S8x1x256 ![] bcast_S_S8x1x256 (constant S_ .f32 0x00000000#32) : (⟨S8x1x256, .f32⟩ : BufTy).Contents (Elt F))⟩,
      ⟨S8x128x256, (g : (⟨S8x128x256, .f32⟩ : BufTy).Contents (Elt F))⟩,
      ⟨S8x7x256, (broadcastInDim S8x7x256 ![] bcast_S_S8x7x256 (constant S_ .f32 0x00000000#32) : (⟨S8x7x256, .f32⟩ : BufTy).Contents (Elt F))⟩]
    concatenates_S8x1x256_S8x128x256_S8x7x256_S8x136x256_d1) shapeCasts_S8x136x256_S278528

/-- The indices, flattened. -/
def indices (x : S8x128x128.Idx → Elt F .i32) : S131072.Idx → Elt F .i32 := shapeCast S131072 x shapeCasts_S8x128x128_S131072

abbrev ft (d : Dev nD) : S278528.Idx → Elt F .f32 := table (m ((SparseCore.T d).loc main_arg1))
abbrev fi (d : Dev nD) : S131072.Idx → Elt F .i32 := indices (m ((SparseCore.T d).loc main_arg0))

/-- The program's result, from its two arguments. -/
def result (x : S8x128x128.Idx → Elt F .i32) (g : S8x128x256.Idx → Elt F .f32) : S8x128x128x256.Idx → Elt F .f32 :=
  shapeCast S8x128x128x256 (outF (table g) (indices x)) shapeCasts_S33554432_S8x128x128x256

def V2 (d : Dev nD) : Valuation τ sig (Elt F) := Function.update (V1 m d) o' (outF (ft m d) (fi m d))
def V3 (d : Dev nD) : Valuation τ sig (Elt F) := StableHlo.after postOps (V2 m d)

theorem V1_a0 (d : Dev nD) : V1 m d a0' = m ((SparseCore.T d).loc main_arg0) := by
  unfold V1; after_results; rfl
theorem V1_a1 (d : Dev nD) : V1 m d a1' = m ((SparseCore.T d).loc main_arg1) := by
  unfold V1; after_results; rfl
theorem V1_t (d : Dev nD) : V1 m d t' = ft m d := by
  unfold V1; after_results; rfl
theorem V1_i (d : Dev nD) : V1 m d i' = fi m d := by
  unfold V1; after_results; rfl

theorem V3_a0 (d : Dev nD) : V3 m d a0' = m ((SparseCore.T d).loc main_arg0) := by
  refine Eq.trans ?_ (V1_a0 m d)
  unfold V3; after_results
  exact Function.update_of_ne (show a0' ≠ o' by decide) _ _
theorem V3_a1 (d : Dev nD) : V3 m d a1' = m ((SparseCore.T d).loc main_arg1) := by
  refine Eq.trans ?_ (V1_a1 m d)
  unfold V3; after_results
  exact Function.update_of_ne (show a1' ≠ o' by decide) _ _
theorem V3_r (d : Dev nD) : V3 m d r' = result (m ((SparseCore.T d).loc main_arg0)) (m ((SparseCore.T d).loc main_arg1)) := by
  have h : V2 m d o' = outF (ft m d) (fi m d) := Function.update_self _ _ _
  unfold V3 result; after_results
  rw [h]
  rfl

/-! ## The call's payloads -/

def P : (K (F := F)).Pay (nD := nD) (Val := Elt F) (Name := ℕ) (U := UU) where
  st := fun q d c => match q with
    | 0 => bigSep Finset.univ fun i : Fin 16 => share d (ft m d) (fi m d) (V1 m d o') (worker c i)
  dn := fun q d c => match q with
    | 0 => bigSep Finset.univ fun i : Fin 16 => share d (ft m d) (fi m d) (outF (ft m d) (fi m d)) (worker c i)
  go := fun q d c i => match q with
    | 0 => share d (ft m d) (fi m d) (V1 m d o') (worker c (Fin.cast nSub_zero i))
  td := fun q d c i => match q with
    | 0 => share d (ft m d) (fi m d) (outF (ft m d) (fi m d)) (worker c (Fin.cast nSub_zero i))
  x := fun _ _ => iprop(emp)

instance P_storable : (P (F := F) m).IsStorable where
  st q d c := match q with
    | 0 => (inferInstance : BI.Storable (upEmb : UEmb _ 𝕄)
        (bigSep Finset.univ fun i : Fin 16 => share d (ft m d) (fi m d) (V1 m d o') (worker c i)))
  dn q d c := match q with
    | 0 => (inferInstance : BI.Storable (upEmb : UEmb _ 𝕄)
        (bigSep Finset.univ fun i : Fin 16 => share d (ft m d) (fi m d) (outF (ft m d) (fi m d)) (worker c i)))
  go q d c i := match q with | 0 => share_storable d _ _ _ _
  td q d c i := match q with | 0 => share_storable d _ _ _ _

/-- What the run asks of the launch memory: every index names a row of the table's first 129. -/
def PreOK : Prop := ∀ (d : Dev nD) (j : S8x128x128.Idx), (m ((SparseCore.T d).loc main_arg0) j : BitVec 32).toNat ≤ 128

theorem idx_le (h : PreOK m) (d : Dev nD) (n : ℕ) : idxN (F := F) (fi m d) n ≤ 128 := by
  unfold idxN rd fi indices shapeCast
  exact h d _

/-! ## The obligation of a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s) aI (Memref.isWhole_whole _) aT (Memref.isWhole_whole _) aO
          (Memref.isWhole_whole _) sI (Memref.isWhole_whole _) sT (Memref.isWhole_whole _) sA (Memref.isWhole_whole _) sB (Memref.isWhole_whole _)
          cc0_scratch4 cc0_scratch5 cc0_scoped0 cc0_scoped1) ⟨⟩ c s := rfl

/-- A worker's share, as its task names it. -/
theorem share_thr (d : Dev nD) (c : Fin 2) (i : Fin 16) (ft : S278528.Idx → Elt F .f32) (fi : S131072.Idx → Elt F .i32) (f : S33554432.Idx → Elt F .f32) :
    (share d ft fi f (worker c i) : sProp 𝕄)
      = iprop(((aI).view.loc (thr d (coordsV c i)) ↦{ShareLeaves.leaf 5 fullShare (worker c i)} fi)
        ∗ ((aT).view.loc (thr d (coordsV c i)) ↦{ShareLeaves.leaf 5 fullShare (worker c i)} ft)
        ∗ outPts d (coordsV c i) f (pos (coordsV c i) 0) (pos (coordsV c i) 32)) := by
  have e0 : pos (coordsV c i) 0 = (worker c i).val * 1048576 := by
    show (2 * i.val + c.val) * 1048576 + 0 * 32768 = (2 * i.val + c.val) * 1048576
    omega
  have e1 : pos (coordsV c i) 32 = (worker c i).val * 1048576 + 1048576 := by
    show (2 * i.val + c.val) * 1048576 + 32 * 32768 = (2 * i.val + c.val) * 1048576 + 1048576
    omega
  rw [e0, e1]
  rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's run, from its worker's share to that share with the result written. -/
theorem task_share (hF : (K (F := F)).Facts) (hpre : PreOK m) (d : Dev nD) (c : Fin 2) (i : Fin 16)
    (O : CellTallies nD τ sig (HIx 1)) (W : Waits sig (HIx 1)) (hO : ∀ g, O g none = 0) :
    iprop(levAts (K (F := F)).L (K (F := F)).lev ∗ emp ∗ share d (ft m d) (fi m d) (V1 m d o') (worker c i)
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0_gather_kernel (coordsV c i) aI (Memref.isWhole_whole _) aT (Memref.isWhole_whole _) aO (Memref.isWhole_whole _) sI (Memref.isWhole_whole _) sT
          (Memref.isWhole_whole _) sA (Memref.isWhole_whole _) sB (Memref.isWhole_whole _) cc0_scratch4 cc0_scratch5 cc0_scoped0 cc0_scoped1)
          fun _ => iprop(share d (ft m d) (fi m d) (outF (ft m d) (fi m d)) (worker c i)
            ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') := by
  rw [share_thr, share_thr]
  exact (task_run d (coordsV c i) (ft m d) (fi m d) (V1 m d o') hF (idx_le m hpre d) _ O W hO).trans (wp_mono frame _ _ fun _ => obl_post)

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_share m hF hpre d c i O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => share d (ft m d) (fi m d) (V1 m d o') (worker c i)) ⊢ |={Set.univ}=> iprop(
      (bigSep Finset.univ fun i : Fin ((K (F := F)).nSub 0) => share d (ft m d) (fi m d) (V1 m d o') (worker c (Fin.cast nSub_zero i)))
      ∗ ((bigSep Finset.univ fun i : Fin ((K (F := F)).nSub 0) =>
            share d (ft m d) (fi m d) (outF (ft m d) (fi m d)) (worker c (Fin.cast nSub_zero i)))
          -∗ bigSep Finset.univ fun i : Fin 16 => share d (ft m d) (fi m d) (outF (ft m d) (fi m d)) (worker c i)))
  rw [bigSep_tasks (F := F) (fun i => share d (ft m d) (fi m d) (V1 m d o') (worker c i)),
    bigSep_tasks (F := F) (fun i => share d (ft m d) (fi m d) (outF (ft m d) (fi m d)) (worker c i))]
  iintro H; imodintro
  isplitl [H]; · iexact H
  iintro H; iexact H

/-! ## The launch element -/

def u₀ : UU := (initOf (K (F := F)).hsCells (K (F := F)).hsToks, 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## The TensorCore's program -/

theorem unscoped_held (d : Dev nD) : (unscopedBufs d (fun b => m ((SparseCore.T d).loc b)) : sProp 𝕄) = StableHlo.held (T d) SA (V0 m d) := by
  unfold unscopedBufs StableHlo.held SA
  rw [show (Finset.univ.filter fun b : Ref sig .tc => ¬ b.isScoped) = Finset.univ by decide,
    bigSep_map]
  rfl

abbrev SC3 : Finset (DevRef τ sig) := {i', t', o'}

theorem held_SC3 (d : Dev nD) (W : Valuation τ sig (Elt F)) :
    (StableHlo.held (T d) SC3 W : sProp 𝕄) = iprop((iLoc d ↦{fullShare} W i') ∗ (tLoc d ↦{fullShare} W t') ∗ oLoc d ↦{fullShare} W o') := by
  unfold StableHlo.held SC3
  rw [SparseCore.bigSep_insert' (by decide), SparseCore.bigSep_insert' (by decide), bigSep_singleton]

theorem SC3_sub : (SC3 : Finset (DevRef τ sig)) ⊆ SA := by decide

theorem st0_eq (d : Dev nD) : (bigSep Finset.univ fun c : Fin ((K (F := F)).nCore 0) => (P m).st 0 d c) = StableHlo.held (T d) SC3 (V1 m d) := by
  rw [held_SC3, V1_t, V1_i, shares_eq]
  rfl

theorem dn0_eq (d : Dev nD) : (bigSep Finset.univ fun c : Fin ((K (F := F)).nCore 0) => (P m).dn 0 d c) = StableHlo.held (T d) SC3 (V2 m d) := by
  have ht : V2 m d t' = ft m d := (Function.update_of_ne (show t' ≠ o' by decide) _ _).trans (V1_t m d)
  have hi : V2 m d i' = fi m d := (Function.update_of_ne (show i' ≠ o' by decide) _ _).trans (V1_i m d)
  have ho : V2 m d o' = outF (ft m d) (fi m d) := Function.update_self _ _ _
  rw [held_SC3, ht, hi, ho, shares_eq]
  rfl

theorem held_rest (d : Dev nD) : (StableHlo.held (T d) (SA \ SC3) (V1 m d) : sProp 𝕄) = StableHlo.held (T d) (SA \ SC3) (V2 m d) := by
  refine StableHlo.held_congr _ fun b hb => ?_
  refine (Function.update_of_ne (fun e => ?_) _ _).symm
  subst e
  exact (Finset.mem_sdiff.mp hb).2 (by decide)

abbrev FIN (d : Dev nD) : sProp 𝕄 := StableHlo.held (T d) SA (V3 m d)

theorem preOps_sub : ∀ op ∈ (preOps : List (HloOp τ sig (Elt F))), op.bufs ⊆ SA := by
  intro op h
  fin_cases h <;> exact of_decide_eq_true rfl

theorem postOps_sub : ∀ op ∈ (postOps : List (HloOp τ sig (Elt F))), op.bufs ⊆ SA := by
  intro op h
  fin_cases h <;> exact of_decide_eq_true rfl

/-- The TensorCore's program: the operations before the call, the call, the operation after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_split]
  iintro ⟨#Hctx, Hst, ⟨Hb, Hheld, Hts, -⟩, -⟩
  iapply (StableHlo.wp_seq 𝒱 none Set.univ d SA _ preOps preOps_sub (by intro _ h; (repeat (cases h with | head => rfl | tail _ h => ?_)); exact nomatch h) (V0 m d)) $$ [Hb Hheld]
  · isplitl [Hb]; · iexact Hb
    iexact Hheld
  iintro ⟨Hb, Hheld⟩
  ihave Hheld := (Entails.of_eq (show (StableHlo.held d.tc SA (StableHlo.after preOps (V0 m d)) : sProp 𝕄) = StableHlo.held (T d) SA (V1 m d) from rfl)) $$ Hheld
  ihave Hh := (Entails.of_eq (StableHlo.held_sub_split (T d) SC3_sub (V1 m d))) $$ Hheld
  icases Hh with ⟨H3, Hrest⟩
  rw [wp_bind]
  iapply ((K (F := F)).wp_run (D (F := F)) 𝒱 (EH := EH) (P := P m) κ d 0) $$ [Hst H3 Hrest Hb Hts]
  isplitr; · iexact Hctx
  isplitl [Hst]; · iexact Hst
  isplitl [H3]
  · rw [st0_eq]; iexact H3
  iintro ⟨Hst, Hdn⟩
  ihave Hdn' := (Entails.of_eq (dn0_eq m d)) $$ Hdn
  ihave Hrest := (Entails.of_eq (held_rest m d)) $$ Hrest
  ihave Hheld := (Entails.of_eq (StableHlo.held_sub_split (T d) SC3_sub (V2 m d)).symm) $$ [Hdn' Hrest]
  · isplitl [Hdn']; · iexact Hdn'
    iexact Hrest
  iapply (StableHlo.wp_seq 𝒱 none Set.univ d SA _ postOps postOps_sub (by intro _ h; (repeat (cases h with | head => rfl | tail _ h => ?_)); exact nomatch h) (V2 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-! ## The end -/

/-- What the final memory holds on device `d`: the result, and the arguments as launched. -/
def fq (d : Dev nD) (s' : Phys nD τ sig (Elt F)) : Prop :=
  s'.mem.mem ((SparseCore.T d).loc main_v6) = result (m ((SparseCore.T d).loc main_arg0)) (m ((SparseCore.T d).loc main_arg1))
    ∧ s'.mem.mem ((SparseCore.T d).loc main_arg0) = m ((SparseCore.T d).loc main_arg0)
    ∧ s'.mem.mem ((SparseCore.T d).loc main_arg1) = m ((SparseCore.T d).loc main_arg1)

theorem held_SR3 (d : Dev nD) (W : Valuation τ sig (Elt F)) :
    (StableHlo.held (T d) {r', a0', a1'} W : sProp 𝕄) = iprop(((SparseCore.T d).loc main_v6 ↦{fullShare} W r')
      ∗ ((SparseCore.T d).loc main_arg0 ↦{fullShare} W a0') ∗ (SparseCore.T d).loc main_arg1 ↦{fullShare} W a1') := by
  unfold StableHlo.held
  rw [SparseCore.bigSep_insert' (by decide), SparseCore.bigSep_insert' (by decide), bigSep_singleton]

theorem hfin (d : Dev nD) (s' : Phys nD τ sig (Elt F)) : iprop(FIN m d ∗ SI s') ⊢ (⌜fq m d s'⌝ : sProp 𝕄) := by
  rw [show (FIN m d : sProp 𝕄) = _ from StableHlo.held_sub_split (T d) (show ({r', a0', a1'} : Finset (DevRef τ sig)) ⊆ SA by decide) (V3 m d),
    held_SR3, V3_r, V3_a0, V3_a1]
  iintro ⟨⟨⟨Hr, H0, H1⟩, -⟩, HSI⟩
  ihave H := (persistent_entails_right (SI_pointsTo_agree (st := s') (ℓ := (SparseCore.T d).loc main_v6) (I := Finset.univ) (q := fullShare)
    (f := result (m ((SparseCore.T d).loc main_arg0)) (m ((SparseCore.T d).loc main_arg1))))) $$ [HSI Hr]
  · isplitl [HSI] <;> iassumption
  icases H with ⟨%h1, HSI, -⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h2, HSI, -⟩
  ihave H := (SI_pointsTo_agree (st := s') (ℓ := (SparseCore.T d).loc main_arg1) (I := Finset.univ) (q := fullShare)
    (f := m ((SparseCore.T d).loc main_arg1))) $$ [HSI H1]
  · isplitl [HSI] <;> iassumption
  icases H with %h3
  ipureintro
  exact ⟨funext fun i => h1 i (Finset.mem_univ i), funext fun i => h2 i (Finset.mem_univ i), funext fun i => h3 i (Finset.mem_univ i)⟩

/-- What every execution ends with, on every device. -/
def QC : PUnit × MemSt nD τ sig (Elt F) → Prop := fun r =>
  (∀ d : Dev nD, r.2.mem ((SparseCore.T d).loc main_v6) = result (m ((SparseCore.T d).loc main_arg0)) (m ((SparseCore.T d).loc main_arg1))
    ∧ r.2.mem ((SparseCore.T d).loc main_arg0) = m ((SparseCore.T d).loc main_arg0)
    ∧ r.2.mem ((SparseCore.T d).loc main_arg1) = m ((SparseCore.T d).loc main_arg1)) ∧ r.2.sem = fun _ => 0

/-- From any memory whose indices are in range, every execution terminates with the result at its value, the arguments
    unchanged and every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.RefValue.lean ====
/-
  The reference's result, read at an index: of a batch member, the feature row its index names, row 0 being zeros.
-/
module

public import proofs.«01_k».proof.Defs
public import proofs.«01_k».proof.Proof.Gen.ReferenceIdeal
public import proofs.«01_k».proof.Proof.Gen.ReferenceIdeal.Run
public import Idealize.ShloMosaic.Lib.ValueIdxCore
public import Idealize.ShloMosaic.Lib.Pipeline.Value
public import Idealize.ShloMosaic.Lib.ReduceAll
public import Idealize.ShloMosaic.Lib.Affine

@[expose] public section

noncomputable section

namespace Cert.Proof.RefValue

open Cert.ReferenceIdeal Cert.ReferenceIdeal.Gen
open Idealize.ShloMosaic Idealize.ShloMosaic.ValueIdx Idealize.SL.Sem

variable {F : FTy → Type} [FloatOps F]

/-- Word `c` of row `r` of batch member `b`'s padded features: row 0 is zeros, row `r` is feature row `r - 1`. -/
def padRow (g : (⟨3, ![8, 128, 256]⟩ : Shape).Idx → Elt F .f32) (b : Fin 8) (r : ℕ) (c : Fin 256) : Elt F .f32 :=
  if h : 1 ≤ r ∧ r ≤ 128 then g (ix3 b ⟨r - 1, by omega⟩ c) else FloatOps.ofBits .f32 0x00000000#32

/-! ## The reference's term, in parts -/

/-- The indices, one column per batch member. -/
def rows (x : S8x128x128.Idx → Elt F .i32) : S8x16384x1.Idx → Elt F .i32 :=
  broadcastInDim S8x16384x1 ![0, 1] bcast_S8x16384_S8x16384x1_0_1 (shapeCast S8x16384 x shapeCasts_S8x128x128_S8x16384)

/-- The rows the gather starts at: an index below zero counts from the end. -/
def starts (x : S8x128x128.Idx → Elt F .i32) : S8x16384x1.Idx → Elt F .i32 :=
  select (cmpi .slt (rows (F := F) x) (broadcastInDim S8x16384x1 ![] bcast_S_S8x16384x1 (constantI S_ 32 0#32))) (addi (rows (F := F) x) (broadcastInDim S8x16384x1 ![] bcast_S_S8x16384x1 (constantI S_ 32 129#32))) (rows (F := F) x)

/-- Which indices are in range. -/
def mask (x : S8x128x128.Idx → Elt F .i32) : S8x16384.Idx → BitVec 1 :=
  Host.reduce IntOp.andi (andi (cmpi .sge (starts (F := F) x) (broadcastInDim S8x16384x1 ![] bcast_S_S8x16384x1 (constantI S_ 32 0#32))) (cmpi .sle (starts (F := F) x) (broadcastInDim S8x16384x1 ![0, 1, 2] bcast_S1x1x1_S8x16384x1_0_1_2 (broadcastInDim S1x1x1 ![2] bcast_S1_S1x1x1_2 (constantI S1 32 128#32))))) (constantI S_ 1 1#1) reducesTo_S8x16384x1_S8x16384_d2 h_S_

/-- The padded features. -/
def padded (g : S8x128x256.Idx → Elt F .f32) : S8x129x256.Idx → Elt F .f32 :=
  concatenate S8x129x256 1 [⟨S8x1x256, (broadcastInDim S8x1x256 ![] bcast_S_S8x1x256 (constant S_ .f32 0x00000000#32) : S8x1x256.Idx → Elt F .f32)⟩, ⟨S8x128x256, g⟩] concatenates_S8x1x256_S8x128x256_S8x129x256_d1

/-- The reference's result. -/
def refOut (x : S8x128x128.Idx → Elt F .i32) (g : S8x128x256.Idx → Elt F .f32) : S8x128x128x256.Idx → Elt F .f32 :=
  shapeCast S8x128x128x256 (select (broadcastInDim S8x16384x256 ![0, 1] bcast_S8x16384_S8x16384x256_0_1 (mask (F := F) x)) (Host.gather gather_S8x129x256_S8x16384x1_S8x16384x256_2_1_0_0_1_2_11256 (padded g) (starts (F := F) x)) (broadcastInDim S8x16384x256 ![] bcast_S_S8x16384x256 (constant S_ .f32 0x7FC00000#32))) shapeCasts_S8x16384x256_S8x128x128x256

/-! ## Its parts at an index -/

theorem rows_apply (x : S8x128x128.Idx → Elt F .i32) (b : Fin 8) (p q : Fin 128) (k : Fin 16384) (z : Fin 1) (hk : k.val = p.val * 128 + q.val) :
    rows (F := F) x (ix3 b k z) = x (ix3 b p q) := by
  unfold rows
  refine (broadcastInDim_apply _ _ _ _ (ix2 b k) fun a => ?_).trans (shapeCast_apply _ _ _ (ix3 b p q) ?_)
  · match a with
    | ⟨0, _⟩ => rfl
    | ⟨1, _⟩ => rfl
  · rw [Shape.rowMajor_val_three, Shape.rowMajor_val_two]
    show (b.val * 128 + p.val) * 128 + q.val = b.val * 16384 + k.val
    omega

theorem toInt_of_le {v : BitVec 32} (h : v.toNat ≤ 128) : v.toInt = v.toNat := by
  rw [BitVec.toInt_eq_toNat_cond]
  simp only [Nat.reducePow]
  omega

theorem starts_apply (x : S8x128x128.Idx → Elt F .i32) (hx : ∀ j, (x j : BitVec 32).toNat ≤ 128) (b : Fin 8) (p q : Fin 128) (k : Fin 16384)
    (z : Fin 1) (hk : k.val = p.val * 128 + q.val) : starts (F := F) x (ix3 b k z) = x (ix3 b p q) := by
  have hr := rows_apply (F := F) x b p q k z hk
  have hv := toInt_of_le (hx (ix3 b p q))
  unfold starts
  show (if IntOp.cmpi .slt (rows (F := F) x (ix3 b k z)) 0#32 = 1#1 then _ else rows (F := F) x (ix3 b k z)) = _
  rw [hr, if_neg]
  rw [IntOp.cmpi_slt, hv]
  show ¬((x (ix3 b p q) : BitVec 32).toNat : ℤ) < 0
  omega

theorem starts_le (x : S8x128x128.Idx → Elt F .i32) (hx : ∀ j, (x j : BitVec 32).toNat ≤ 128) (y : S8x16384x1.Idx) :
    (starts (F := F) x y : BitVec 32).toNat ≤ 128 := by
  have h1 : (y 1).val < 16384 := (y 1).isLt
  have e := starts_apply (F := F) x hx (y 0) ⟨(y 1).val / 128, by omega⟩ ⟨(y 1).val % 128, by omega⟩ (y 1) (y 2)
    (by show (y 1).val = (y 1).val / 128 * 128 + (y 1).val % 128; omega)
  refine (congrArg BitVec.toNat ((congrArg (starts (F := F) x) (eq_ix3 y)).trans e)).trans_le (hx _)

theorem mask_apply (x : S8x128x128.Idx → Elt F .i32) (hx : ∀ j, (x j : BitVec 32).toNat ≤ 128) (y : S8x16384.Idx) : mask (F := F) x y = 1#1 := by
  unfold mask
  refine Host.reduce_andi_one _ _ _ _ _ rfl fun i => ?_
  have hv := starts_le (F := F) x hx i
  have hi := toInt_of_le hv
  show IntOp.andi (IntOp.cmpi .sge (starts (F := F) x i) 0#32) (IntOp.cmpi .sle (starts (F := F) x i) 128#32) = 1#1
  rw [IntOp.andi_eq_one, IntOp.cmpi_sge, IntOp.cmpi_sle, hi]
  show (0 : ℤ) ≤ _ ∧ _ ≤ (128 : ℤ)
  omega

theorem padded_apply (g : S8x128x256.Idx → Elt F .f32) (b : Fin 8) (r : Fin 129) (c : Fin 256) : padded g (ix3 b r c) = padRow g b r.val c := by
  have hr := r.isLt
  unfold padded padRow
  split
  · rename_i h
    refine concatenate_apply_piece 1 [⟨S8x1x256, (broadcastInDim S8x1x256 ![] bcast_S_S8x1x256 (constant S_ .f32 0x00000000#32) : S8x1x256.Idx → Elt F .f32)⟩, ⟨S8x128x256, g⟩] concatenates_S8x1x256_S8x128x256_S8x129x256_d1 (ix3 b r c) 1 (by simp) S8x128x256 g rfl rfl 1 rfl (ix3 b ⟨r.val - 1, by omega⟩ c) (fun a ha => ?_) ?_
    · match a with
      | ⟨0, _⟩ => rfl
      | ⟨1, _⟩ => exact absurd rfl ha
      | ⟨2, _⟩ => rfl
    · show 1 + (r.val - 1) = r.val
      omega
  · rename_i h
    refine (concatenate_apply_piece 1 [⟨S8x1x256, (broadcastInDim S8x1x256 ![] bcast_S_S8x1x256 (constant S_ .f32 0x00000000#32) : S8x1x256.Idx → Elt F .f32)⟩, ⟨S8x128x256, g⟩] concatenates_S8x1x256_S8x128x256_S8x129x256_d1 (ix3 b r c) 0 (by simp) S8x1x256 _ rfl rfl 0 rfl (ix3 b 0 c) (fun a ha => ?_) ?_).trans rfl
    · match a with
      | ⟨0, _⟩ => rfl
      | ⟨1, _⟩ => exact absurd rfl ha
      | ⟨2, _⟩ => rfl
    · show 0 + 0 = r.val
      omega

/-- The gather at an index: the padded row its start names. -/
theorem gather_apply (f : S8x129x256.Idx → Elt F .f32) (st : IVec S8x16384x1 32) (b : Fin 8) (k : Fin 16384) (c : Fin 256)
    (h : (st (ix3 b k 0)).toNat ≤ 128) :
    Host.gather gather_S8x129x256_S8x16384x1_S8x16384x256_2_1_0_0_1_2_11256 f st (ix3 b k c)
      = f (ix3 b ⟨(st (ix3 b k 0)).toNat, by omega⟩ c) := by
  have hi := toInt_of_le h
  let G := gather_S8x129x256_S8x16384x1_S8x16384x256_2_1_0_0_1_2_11256
  have hb : (0 : Fin S8x129x256.rank) ∈ G.operandBatchingDims := List.mem_singleton.mpr rfl
  have hb1 : (1 : Fin S8x129x256.rank) ∉ G.operandBatchingDims := fun h => absurd (List.mem_singleton.mp h) (by decide)
  have hb2 : (2 : Fin S8x129x256.rank) ∉ G.operandBatchingDims := fun h => absurd (List.mem_singleton.mp h) (by decide)
  have hm : (1 : Fin S8x129x256.rank) ∈ G.startIndexMap := List.mem_singleton.mpr rfl
  have hm2 : (2 : Fin S8x129x256.rank) ∉ G.startIndexMap := fun h => absurd (List.mem_singleton.mp h) (by decide)
  have hc : (1 : Fin S8x129x256.rank) ∈ G.collapsedSliceDims := List.mem_singleton.mpr rfl
  have hk : (2 : Fin S8x129x256.rank) ∈ G.sKept :=
    (GatherDims.mem_sKept _ _).mpr ⟨fun h => absurd (List.mem_singleton.mp h) (by decide), hb2⟩
  have hsi : ∀ n, G.siIdx (ix3 b k c) n = ix3 b k 0 := by
    intro n
    obtain rfl : n = (0 : Fin 1) := Subsingleton.elim (α := Fin 1) _ _
    funext e; refine Fin.ext ?_
    match e with
    | ⟨0, _⟩ => rfl
    | ⟨1, _⟩ => rfl
    | ⟨2, _⟩ => rfl
  unfold Host.gather
  refine congrArg f (funext fun a => Fin.ext ?_)
  match a with
  | ⟨0, _⟩ =>
    show G.start (ix3 b k c) st 0 + G.batchCoord (ix3 b k c) 0 + G.offCoord (ix3 b k c) 0 = b.val
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    exact (dif_pos hb).trans rfl
  | ⟨1, _⟩ =>
    show G.start (ix3 b k c) st 1 + G.batchCoord (ix3 b k c) 1 + G.offCoord (ix3 b k c) 1 = (st (ix3 b k 0)).toNat
    rw [GatherDims.batchCoord_eq_zero _ _ _ hb1,
      GatherDims.offCoord_eq_zero _ _ _ (fun h => ((GatherDims.mem_sKept _ _).mp h).1 hc)]
    simp only [Nat.add_zero]
    unfold GatherDims.start
    refine (dif_pos hm).trans ?_
    rw [hsi, hi]
    show min (((st (ix3 b k 0)).toNat : ℤ).toNat) (129 - 1) = _
    omega
  | ⟨2, _⟩ =>
    show G.start (ix3 b k c) st 2 + G.batchCoord (ix3 b k c) 2 + G.offCoord (ix3 b k c) 2 = c.val
    rw [GatherDims.batchCoord_eq_zero _ _ _ hb2]
    unfold GatherDims.start GatherDims.offCoord
    rw [dif_neg hm2, dif_pos hk]
    simp only [Nat.zero_add]
    rfl

/-- The reference's result at an index: the padded row its index names. -/
theorem refOut_apply (x : S8x128x128.Idx → Elt F .i32) (g : S8x128x256.Idx → Elt F .f32) (hx : ∀ j, (x j : BitVec 32).toNat ≤ 128)
    (b : Fin 8) (p q : Fin 128) (c : Fin 256) :
    refOut x g (ix4 b p q c) = padRow g b (x (ix3 b p q) : BitVec 32).toNat c := by
  have hp := p.isLt
  have hq := q.isLt
  have hs := starts_apply (F := F) x hx b p q ⟨p.val * 128 + q.val, by omega⟩ 0 rfl
  unfold refOut
  refine (shapeCast_apply _ _ _ (ix3 b (⟨p.val * 128 + q.val, by omega⟩ : Fin 16384) c) ?_).trans ?_
  · rw [Shape.rowMajor_val_three, Shape.rowMajor_val_four]
    show (b.val * 16384 + (p.val * 128 + q.val)) * 256 + c.val = ((b.val * 128 + p.val) * 128 + q.val) * 256 + c.val
    omega
  · show Scalar.select (broadcastInDim S8x16384x256 ![0, 1] bcast_S8x16384_S8x16384x256_0_1 (mask (F := F) x) _) _ _ = _
    rw [show broadcastInDim S8x16384x256 ![0, 1] bcast_S8x16384_S8x16384x256_0_1 (mask (F := F) x) (ix3 b (⟨p.val * 128 + q.val, by omega⟩ : Fin 16384) c) = 1#1
      from mask_apply x hx _]
    refine (if_pos rfl).trans ?_
    rw [gather_apply _ _ _ _ _ (starts_le x hx _), padded_apply]
    show padRow g b (starts (F := F) x (ix3 b _ 0)).toNat c = _
    rw [hs]

/-- The reference's run: its result is `refOut` of its arguments, which are unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v5) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1, (h c).2.1, (h c).2.2⟩, sem_eq_zero_of_no_sems (by decide) r.2⟩)
    (Cert.ReferenceIdeal.Value.run m ρ)

end Cert.Proof.RefValue

end
-- ==== Proof.Value.lean ====
/-
  The kernel's result is the reference's, when every index names one of the 129 padded rows; and what the precondition says of the indices.
-/
module

public import proofs.«01_k».proof.Proof.Launch
public import proofs.«01_k».proof.Proof.RefValue
public import proofs.«01_k».proof.Proof.Gen.Pre_lcas_in_rows

@[expose] public section

noncomputable section

namespace Cert.Proof.Gather

open Cert.KernelIdeal Cert.KernelIdeal.Gen
open Idealize.ShloMosaic Idealize.ShloMosaic.ValueIdx
open Cert.Proof.RefValue (padRow refOut refOut_apply toInt_of_le)

variable {F : FTy → Type} [FloatOps F]

/-- The three pieces the table is put together from. -/
def pieces (g : S8x128x256.Idx → Elt F .f32) : List ((s : Shape) × (s.Idx → Elt F .f32)) :=
  [⟨S8x1x256, (broadcastInDim S8x1x256 ![] bcast_S_S8x1x256 (constant S_ .f32 0x00000000#32) : S8x1x256.Idx → Elt F .f32)⟩,
      ⟨S8x128x256, g⟩,
      ⟨S8x7x256, (broadcastInDim S8x7x256 ![] bcast_S_S8x7x256 (constant S_ .f32 0x00000000#32) : S8x7x256.Idx → Elt F .f32)⟩]

/-- The features between one row of zeros and seven. -/
def wide (g : S8x128x256.Idx → Elt F .f32) : S8x136x256.Idx → Elt F .f32 :=
  concatenate S8x136x256 1
    (pieces g)
    concatenates_S8x1x256_S8x128x256_S8x7x256_S8x136x256_d1

/-- Its first 129 rows are the padded features. -/
theorem wide_apply (g : S8x128x256.Idx → Elt F .f32) (b : Fin 8) (r : Fin 136) (c : Fin 256) (h : r.val ≤ 128) :
    wide g (ix3 b r c) = padRow g b r.val c := by
  unfold wide padRow
  split
  · rename_i hr
    refine concatenate_apply_piece 1 (pieces g) concatenates_S8x1x256_S8x128x256_S8x7x256_S8x136x256_d1 (ix3 b r c) 1 (by simp [pieces]) S8x128x256 g rfl rfl 1 rfl
      (ix3 b ⟨r.val - 1, by omega⟩ c) (fun a ha => ?_) ?_
    · match a with
      | ⟨0, _⟩ => rfl
      | ⟨1, _⟩ => exact absurd rfl ha
      | ⟨2, _⟩ => rfl
    · show 1 + (r.val - 1) = r.val
      omega
  · rename_i hr
    refine (concatenate_apply_piece 1 (pieces g) concatenates_S8x1x256_S8x128x256_S8x7x256_S8x136x256_d1 (ix3 b r c) 0 (by simp [pieces]) S8x1x256 _ rfl rfl 0 rfl
      (ix3 b 0 c) (fun a ha => ?_) ?_).trans rfl
    · match a with
      | ⟨0, _⟩ => rfl
      | ⟨1, _⟩ => exact absurd rfl ha
      | ⟨2, _⟩ => rfl
    · show 0 + 0 = r.val
      omega

/-- The flat table at word `c` of row `r` of batch member `b`. -/
theorem tabN_table (g : S8x128x256.Idx → Elt F .f32) (b : Fin 8) (r : ℕ) (c : Fin 256) (hr : r ≤ 128) (n : ℕ)
    (hn : n = b.val * 34816 + 256 * r + c.val) : tabN (table g) n = padRow g b r c := by
  have hb := b.isLt
  have hc := c.isLt
  refine (rd_val pos_T (table g) (ix1 (⟨n, by omega⟩ : Fin 278528)) n fun a => ?_).trans ?_
  · obtain rfl : a = 0 := Subsingleton.elim (α := Fin 1) _ _
    rfl
  · refine (shapeCast_apply _ _ _ (ix3 b (⟨r, by omega⟩ : Fin 136) c) ?_).trans (wide_apply g b ⟨r, by omega⟩ c hr)
    rw [Shape.rowMajor_val_three, Shape.rowMajor_val_one]
    show (b.val * 136 + r) * 256 + c.val = n
    omega

/-- The flat indices at a position. -/
theorem idxN_indices (x : S8x128x128.Idx → Elt F .i32) (b : Fin 8) (p q : Fin 128) (n : ℕ) (hn : n = (b.val * 128 + p.val) * 128 + q.val) :
    idxN (F := F) (indices x) n = (x (ix3 b p q) : BitVec 32).toNat := by
  have hb := b.isLt
  have hp := p.isLt
  have hq := q.isLt
  refine congrArg BitVec.toNat ((rd_val pos_I (indices x) (ix1 (⟨n, by omega⟩ : Fin 131072)) n fun a => ?_).trans (shapeCast_apply _ _ _ (ix3 b p q) ?_))
  · obtain rfl : a = 0 := Subsingleton.elim (α := Fin 1) _ _
    rfl
  · rw [Shape.rowMajor_val_three, Shape.rowMajor_val_one]
    exact hn.symm

/-- The kernel's result at an index: the padded row its index names. -/
theorem result_apply (x : S8x128x128.Idx → Elt F .i32) (g : S8x128x256.Idx → Elt F .f32) (hx : ∀ j, (x j : BitVec 32).toNat ≤ 128)
    (b : Fin 8) (p q : Fin 128) (c : Fin 256) :
    result x g (ix4 b p q c) = padRow g b (x (ix3 b p q) : BitVec 32).toNat c := by
  have hb := b.isLt
  have hp := p.isLt
  have hq := q.isLt
  have hc := c.isLt
  obtain ⟨n, hn⟩ : ∃ n, n = ((b.val * 128 + p.val) * 128 + q.val) * 256 + c.val := ⟨_, rfl⟩
  have e1 : n / 4194304 = b.val := by omega
  have e2 : n / 256 = (b.val * 128 + p.val) * 128 + q.val := by omega
  have e3 : n % 256 = c.val := by omega
  unfold result
  refine (shapeCast_apply _ _ _ (ix1 (⟨n, by omega⟩ : Fin 33554432)) ?_).trans ?_
  · rw [Shape.rowMajor_val_one, Shape.rowMajor_val_four]
    exact hn
  · show outN (table g) (indices x) n = _
    unfold outN
    rw [idxN_indices x b p q _ e2, e1, e3]
    exact tabN_table g b _ c (hx _) _ rfl

/-- The kernel's result is the reference's. -/
theorem result_eq (x : S8x128x128.Idx → Elt F .i32) (g : S8x128x256.Idx → Elt F .f32) (hx : ∀ j, (x j : BitVec 32).toNat ≤ 128) :
    result x g = refOut x g := by
  funext y
  refine (congrArg (result x g) (eq_ix4 y)).trans (Eq.trans ?_ (congrArg (refOut x g) (eq_ix4 y)).symm)
  exact (result_apply x g hx _ _ _ _).trans (refOut_apply x g hx _ _ _ _).symm

/-- The precondition says that every index is a row number of the padded features. -/
theorem le_of_pre (x : S8x128x128.Idx → BitVec 32) (g : S8x128x256.Idx → F .f32)
    (h : Cert.Pre_lcas_in_rows.fn (F := F) x g = fun _ => 1#1) (j : S8x128x128.Idx) : (x j).toNat ≤ 128 := by
  haveI : Subsingleton Cert.Pre_lcas_in_rows.S_.Idx := ⟨fun a b => funext fun i => i.elim0⟩
  have e := Host.reduce_andi_all _ _ _ _ ix0 (congrFun h ix0) j
  replace e : IntOp.andi (IntOp.cmpi .sge (x j) 0#32) (IntOp.cmpi .sle (x j) 128#32) = 1#1 := e
  rw [IntOp.andi_eq_one, IntOp.cmpi_sge, IntOp.cmpi_sle] at e
  obtain ⟨h0, h1⟩ := e
  replace h0 : (0 : ℤ) ≤ (x j).toInt := h0
  replace h1 : (x j).toInt ≤ (128 : ℤ) := h1
  rw [BitVec.toInt_eq_toNat_cond] at h0 h1
  simp only [Nat.reducePow] at h0 h1
  have := (x j).isLt
  simp only [Nat.reducePow] at this
  split at h0 <;> omega

end Cert.Proof.Gather

end
-- ==== Proof.lean ====
/-
  The certificate: the frames of the kernel over bits and over ideal floats, the reference's frames, and the kernel's
  result equal to the reference's at ideal floats, wherever every index names a row of the padded features.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_lcas_in_rows
public import proofs.«01_k».proof.Proof.Launch
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem

theorem nonempty_bits (e : EltTy) : Nonempty (Elt Bits e) := by cases e <;> exact ⟨0⟩
theorem nonempty_ideal (e : EltTy) : Nonempty (Elt Ideal e) := by cases e <;> exact ⟨0⟩

/-- The kernel over bits ends, its arguments unchanged and every counter at zero. -/
theorem frame_kernel : Cert.quiescent_Kernel := fun m ρ hpre =>
  haveI := nonempty_bits
  (θ_run Cert.KernelIdeal.defs _ _).mono (fun _ h => ⟨fun c => (h.1 c).2, h.2⟩)
    (Gather.run_main (F := Bits) m ρ fun d j => Gather.le_of_pre _ _ (hpre d) j)

/-- The indices of a memory the precondition admits. -/
theorem ok_ideal (m : (ℓ : Loc Cert.KernelIdeal.nD Cert.KernelIdeal.τ Cert.KernelIdeal.sig) → Buf (Elt Ideal) ℓ)
    (hpre : Cert.Pre_KernelIdeal m) : Gather.PreOK (F := Ideal) m := fun d j => Gather.le_of_pre _ _ (hpre d) j

/-- The kernel over ideal floats ends, its arguments unchanged and every counter at zero. -/
theorem frame_ideal : Cert.quiescent_KernelIdeal := fun m ρ hpre =>
  haveI := nonempty_ideal
  (θ_run Cert.KernelIdeal.defs _ _).mono (fun _ h => ⟨fun c => (h.1 c).2, h.2⟩)
    (Gather.run_main (F := Ideal) m ρ (ok_ideal m hpre))

/-- The reference ends, its arguments unchanged and every counter at zero. -/
theorem frame_reference : Cert.quiescent_ReferenceIdeal := fun m ρ _ =>
  (θ_run Cert.ReferenceIdeal.defs _ _).mono (fun _ h => ⟨fun c => (h.1 c).2, h.2⟩) (RefValue.run (F := Ideal) m ρ)

/-- The same, under the precondition. -/
theorem frame_reference_pre : Cert.quiescent_ReferenceIdeal_pre_lcas_in_rows := fun m ρ _ => frame_reference m ρ trivial

/-- From equal arguments the precondition admits, the kernel's result is the reference's. -/
theorem same_result : Cert.algebraic_KernelIdeal_ReferenceIdeal := fun m ρ m' ρ' hpre hargs =>
  haveI := nonempty_ideal
  ⟨fun c => Gather.result (m ((SparseCore.T c).loc Cert.KernelIdeal.main_arg0)) (m ((SparseCore.T c).loc Cert.KernelIdeal.main_arg1)),
    (θ_run Cert.KernelIdeal.defs _ _).mono (fun _ h c => h.1 c) (Gather.run_main (F := Ideal) m ρ (ok_ideal m hpre)),
    (θ_run Cert.ReferenceIdeal.defs _ _).mono (fun _ h c =>
      ⟨(h.1 c).1.trans ((congrArg₂ RefValue.refOut (hargs c).1 (hargs c).2).trans (Gather.result_eq _ _ (ok_ideal m hpre c)).symm), (h.1 c).2⟩)
      (RefValue.run (F := Ideal) m' ρ')⟩

theorem claim : Cert.Claim :=
  ⟨Cert.Kernel.Gen.facts, Cert.KernelIdeal.Gen.facts, Cert.ReferenceIdeal.Gen.facts, Cert.Pre_lcas_in_rows.Gen.facts,
    frame_kernel, frame_ideal, frame_reference, frame_reference_pre, trivial, same_result⟩

end Cert.Proof

end
